-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e_sm" .f32 0x3DB8AA3B#32 (((Real.log 2)⁻¹ * 16⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x8192 : Shape := ⟨3, ![8, 2048, 8192]⟩
abbrev S8x2048x32 : Shape := ⟨3, ![8, 2048, 32]⟩
abbrev S8x2048x2048 : Shape := ⟨3, ![8, 2048, 2048]⟩
abbrev S8x2048x8 : Shape := ⟨3, ![8, 2048, 8]⟩
abbrev S8x1x2048 : Shape := ⟨3, ![8, 1, 2048]⟩
abbrev S1x256x8192 : Shape := ⟨3, ![1, 256, 8192]⟩
abbrev S1x256x32 : Shape := ⟨3, ![1, 256, 32]⟩
abbrev S1x256x2048 : Shape := ⟨3, ![1, 256, 2048]⟩
abbrev S1x256x8 : Shape := ⟨3, ![1, 256, 8]⟩
abbrev S1x1x256 : Shape := ⟨3, ![1, 1, 256]⟩
abbrev S8x2048x256 : Shape := ⟨3, ![8, 2048, 256]⟩
abbrev S8x2048x128 : Shape := ⟨3, ![8, 2048, 128]⟩
abbrev S8x256x2048 : Shape := ⟨3, ![8, 256, 2048]⟩
abbrev S32x1x256 : Shape := ⟨3, ![32, 1, 256]⟩
abbrev S2048x512 : Shape := ⟨2, ![2048, 512]⟩
abbrev S32x256x256 : Shape := ⟨3, ![32, 256, 256]⟩
abbrev S8x256 : Shape := ⟨2, ![8, 256]⟩
abbrev S256x32 : Shape := ⟨2, ![256, 32]⟩
abbrev S32x256 : Shape := ⟨2, ![32, 256]⟩
abbrev S1x256x256 : Shape := ⟨3, ![1, 256, 256]⟩
abbrev S256x256 : Shape := ⟨2, ![256, 256]⟩
abbrev S1x256x1 : Shape := ⟨3, ![1, 256, 1]⟩
abbrev S256x1 : Shape := ⟨2, ![256, 1]⟩
abbrev S256x128 : Shape := ⟨2, ![256, 128]⟩
abbrev S1x256x128 : Shape := ⟨3, ![1, 256, 128]⟩
abbrev S512x256 : Shape := ⟨2, ![512, 256]⟩
abbrev S256x512 : Shape := ⟨2, ![256, 512]⟩
abbrev S128x128 : Shape := ⟨2, ![128, 128]⟩
abbrev S1x1x128 : Shape := ⟨3, ![1, 1, 128]⟩
abbrev S1x128 : Shape := ⟨2, ![1, 128]⟩
abbrev S1x128x128 : Shape := ⟨3, ![1, 128, 128]⟩
abbrev S128 : Shape := ⟨1, ![128]⟩
abbrev S32x8x512 : Shape := ⟨3, ![32, 8, 512]⟩
abbrev S8x512 : Shape := ⟨2, ![8, 512]⟩
abbrev S1x512x256 : Shape := ⟨3, ![1, 512, 256]⟩
abbrev S512x512 : Shape := ⟨2, ![512, 512]⟩
abbrev S384x128 : Shape := ⟨2, ![384, 128]⟩
abbrev S1x384x128 : Shape := ⟨3, ![1, 384, 128]⟩
abbrev S512x128 : Shape := ⟨2, ![512, 128]⟩
abbrev S1x512x128 : Shape := ⟨3, ![1, 512, 128]⟩
abbrev S1x256x512 : Shape := ⟨3, ![1, 256, 512]⟩
abbrev S1x768x256 : Shape := ⟨3, ![1, 768, 256]⟩
abbrev S768x256 : Shape := ⟨2, ![768, 256]⟩
abbrev S768x512 : Shape := ⟨2, ![768, 512]⟩
abbrev S640x128 : Shape := ⟨2, ![640, 128]⟩
abbrev S1x640x128 : Shape := ⟨3, ![1, 640, 128]⟩
abbrev S768x128 : Shape := ⟨2, ![768, 128]⟩
abbrev S1x768x128 : Shape := ⟨3, ![1, 768, 128]⟩
abbrev S1x256x768 : Shape := ⟨3, ![1, 256, 768]⟩
abbrev S256x768 : Shape := ⟨2, ![256, 768]⟩
abbrev S1x1024x256 : Shape := ⟨3, ![1, 1024, 256]⟩
abbrev S1024x256 : Shape := ⟨2, ![1024, 256]⟩
abbrev S1024x512 : Shape := ⟨2, ![1024, 512]⟩
abbrev S896x128 : Shape := ⟨2, ![896, 128]⟩
abbrev S1x896x128 : Shape := ⟨3, ![1, 896, 128]⟩
abbrev S1024x128 : Shape := ⟨2, ![1024, 128]⟩
abbrev S1x1024x128 : Shape := ⟨3, ![1, 1024, 128]⟩
abbrev S1x256x1024 : Shape := ⟨3, ![1, 256, 1024]⟩
abbrev S256x1024 : Shape := ⟨2, ![256, 1024]⟩
abbrev S1x1280x256 : Shape := ⟨3, ![1, 1280, 256]⟩
abbrev S1280x256 : Shape := ⟨2, ![1280, 256]⟩
abbrev S1280x512 : Shape := ⟨2, ![1280, 512]⟩
abbrev S1152x128 : Shape := ⟨2, ![1152, 128]⟩
abbrev S1x1152x128 : Shape := ⟨3, ![1, 1152, 128]⟩
abbrev S1280x128 : Shape := ⟨2, ![1280, 128]⟩
abbrev S1x1280x128 : Shape := ⟨3, ![1, 1280, 128]⟩
abbrev S1x256x1280 : Shape := ⟨3, ![1, 256, 1280]⟩
abbrev S256x1280 : Shape := ⟨2, ![256, 1280]⟩
abbrev S1x1536x256 : Shape := ⟨3, ![1, 1536, 256]⟩
abbrev S1536x256 : Shape := ⟨2, ![1536, 256]⟩
abbrev S1536x512 : Shape := ⟨2, ![1536, 512]⟩
abbrev S1408x128 : Shape := ⟨2, ![1408, 128]⟩
abbrev S1x1408x128 : Shape := ⟨3, ![1, 1408, 128]⟩
abbrev S1536x128 : Shape := ⟨2, ![1536, 128]⟩
abbrev S1x1536x128 : Shape := ⟨3, ![1, 1536, 128]⟩
abbrev S1x256x1536 : Shape := ⟨3, ![1, 256, 1536]⟩
abbrev S256x1536 : Shape := ⟨2, ![256, 1536]⟩
abbrev S1x1792x256 : Shape := ⟨3, ![1, 1792, 256]⟩
abbrev S1792x256 : Shape := ⟨2, ![1792, 256]⟩
abbrev S1792x512 : Shape := ⟨2, ![1792, 512]⟩
abbrev S1664x128 : Shape := ⟨2, ![1664, 128]⟩
abbrev S1x1664x128 : Shape := ⟨3, ![1, 1664, 128]⟩
abbrev S1792x128 : Shape := ⟨2, ![1792, 128]⟩
abbrev S1x1792x128 : Shape := ⟨3, ![1, 1792, 128]⟩
abbrev S1x256x1792 : Shape := ⟨3, ![1, 256, 1792]⟩
abbrev S256x1792 : Shape := ⟨2, ![256, 1792]⟩
abbrev S1x2048x256 : Shape := ⟨3, ![1, 2048, 256]⟩
abbrev S2048x256 : Shape := ⟨2, ![2048, 256]⟩
abbrev S1920x128 : Shape := ⟨2, ![1920, 128]⟩
abbrev S1x1920x128 : Shape := ⟨3, ![1, 1920, 128]⟩
abbrev S2048x128 : Shape := ⟨2, ![2048, 128]⟩
abbrev S1x2048x128 : Shape := ⟨3, ![1, 2048, 128]⟩
abbrev S256x2048 : Shape := ⟨2, ![256, 2048]⟩
abbrev S256 : Shape := ⟨1, ![256]⟩
abbrev S1x256 : Shape := ⟨2, ![1, 256]⟩
abbrev S254x256 : Shape := ⟨2, ![254, 256]⟩

abbrev nBuf : Space → Nat
  | .hbm => 8
  | .vmem => 23
  | .smem => 0
  | _ => 0

abbrev bufTy : (tb : Table) → Fin (tcTables nBuf tb) → BufTy
  | .hbm, ⟨0, _⟩ => ⟨S8x2048x8192, .fp8e4m3⟩
  | .hbm, ⟨1, _⟩ => ⟨S8x2048x32, .f32⟩
  | .hbm, ⟨2, _⟩ => ⟨S8x2048x2048, .fp8e4m3⟩
  | .hbm, ⟨3, _⟩ => ⟨S8x2048x8, .f32⟩
  | .hbm, ⟨4, _⟩ => ⟨S8x2048x2048, .fp8e4m3⟩
  | .hbm, ⟨5, _⟩ => ⟨S8x2048x8, .f32⟩
  | .hbm, ⟨6, _⟩ => ⟨S8x2048x8192, .fp8e4m3⟩
  | .hbm, ⟨7, _⟩ => ⟨S8x1x2048, .f32⟩
  | .local _ .vmem, ⟨0, _⟩ => ⟨S1x256x8192, .fp8e4m3⟩
  | .local _ .vmem, ⟨1, _⟩ => ⟨S1x256x8192, .fp8e4m3⟩
  | .local _ .vmem, ⟨2, _⟩ => ⟨S1x256x32, .f32⟩
  | .local _ .vmem, ⟨3, _⟩ => ⟨S1x256x32, .f32⟩
  | .local _ .vmem, ⟨4, _⟩ => ⟨S1x256x2048, .fp8e4m3⟩
  | .local _ .vmem, ⟨5, _⟩ => ⟨S1x256x2048, .fp8e4m3⟩
  | .local _ .vmem, ⟨6, _⟩ => ⟨S1x256x8, .f32⟩
  | .local _ .vmem, ⟨7, _⟩ => ⟨S1x256x8, .f32⟩
  | .local _ .vmem, ⟨8, _⟩ => ⟨S1x256x2048, .fp8e4m3⟩
  | .local _ .vmem, ⟨9, _⟩ => ⟨S1x256x2048, .fp8e4m3⟩
  | .local _ .vmem, ⟨10, _⟩ => ⟨S1x256x8, .f32⟩
  | .local _ .vmem, ⟨11, _⟩ => ⟨S1x256x8, .f32⟩
  | .local _ .vmem, ⟨12, _⟩ => ⟨S1x256x8192, .fp8e4m3⟩
  | .local _ .vmem, ⟨13, _⟩ => ⟨S1x256x8192, .fp8e4m3⟩
  | .local _ .vmem, ⟨14, _⟩ => ⟨S1x1x256, .f32⟩
  | .local _ .vmem, ⟨15, _⟩ => ⟨S1x1x256, .f32⟩
  | .local _ .vmem, ⟨16, _⟩ => ⟨S8x2048x256, .fp8e4m3⟩
  | .local _ .vmem, ⟨17, _⟩ => ⟨S8x2048x128, .f32⟩
  | .local _ .vmem, ⟨18, _⟩ => ⟨S8x256x2048, .bf16⟩
  | .local _ .vmem, ⟨19, _⟩ => ⟨S32x1x256, .f32⟩
  | .local _ .vmem, ⟨20, _⟩ => ⟨S2048x512, .f32⟩
  | .local _ .vmem, ⟨21, _⟩ => ⟨S32x256x256, .f32⟩
  | .local _ .vmem, ⟨22, _⟩ => ⟨S8x256, .f32⟩
  | _, _ => ⟨S8x2048x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_194 : BitVec 32 := 0#32
  let c16_i32 : BitVec 32 := 16#32
  let v281 : BitVec 32 := Scalar.addi c0_i32_194 c16_i32
  let c1_i32_195 : BitVec 32 := 1#32
  ⟨c0_i32_194, v281, c1_i32_195⟩
def k0_mult1 (k0_t1 : Fin k0_t1_loop.trips) : BitVec 32 :=
  let c0_i32_194 : BitVec 32 := 0#32
  let c1_i32_195 : BitVec 32 := 1#32
  let arg17 : BitVec 32 := Scf.iv c0_i32_194 c1_i32_195 k0_t1
  let c2_i32_204 : BitVec 32 := 2#32
  let v299 : BitVec 32 := Scalar.muli arg17 c2_i32_204
  let c0_i32_205 : BitVec 32 := 0#32
  let v300 : BitVec 32 := Scalar.addi v299 c0_i32_205
  let c256_i32 : BitVec 32 := 256#32
  let v301 : BitVec 32 := Scalar.muli v300 c256_i32
  v301
def k0_off1 (k0_t1 : Fin k0_t1_loop.trips) (c0_i32_205 : BitVec 32) : Fin 3 → Nat :=
  let c0_206 : Index := 0#32
  let c0_207 : Index := 0#32
  let c0_i32_194 : BitVec 32 := 0#32
  let c1_i32_195 : BitVec 32 := 1#32
  let arg17 : BitVec 32 := Scf.iv c0_i32_194 c1_i32_195 k0_t1
  let c2_i32_204 : BitVec 32 := 2#32
  let v299 : BitVec 32 := Scalar.muli arg17 c2_i32_204
  let v300 : BitVec 32 := Scalar.addi v299 c0_i32_205
  let c256_i32 : BitVec 32 := 256#32
  let v301 : BitVec 32 := Scalar.muli v300 c256_i32
  let v302 : BitVec 32 := v301
  let v303 : Index := Scalar.indexCast v302
  ![0, 0, v303.toNat]
def k0_mult2 (k0_t1 : Fin k0_t1_loop.trips) : BitVec 32 :=
  let c0_i32_194 : BitVec 32 := 0#32
  let c1_i32_195 : BitVec 32 := 1#32
  let arg17 : BitVec 32 := Scf.iv c0_i32_194 c1_i32_195 k0_t1
  let c2_i32_208 : BitVec 32 := 2#32
  let v306 : BitVec 32 := Scalar.muli arg17 c2_i32_208
  let c1_i32_209 : BitVec 32 := 1#32
  let v307 : BitVec 32 := Scalar.addi v306 c1_i32_209
  let c256_i32_210 : BitVec 32 := 256#32
  let v308 : BitVec 32 := Scalar.muli v307 c256_i32_210
  v308
def k0_off2 (k0_t1 : Fin k0_t1_loop.trips) : Fin 3 → Nat :=
  let c0_i32_194 : BitVec 32 := 0#32
  let c1_i32_195 : BitVec 32 := 1#32
  let arg17 : BitVec 32 := Scf.iv c0_i32_194 c1_i32_195 k0_t1
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v314 : Index := Scalar.indexCast v298
  let c0_213 : Index := 0#32
  let c0_214 : Index := 0#32
  ![v314.toNat, 0, 0]
def k0_off3 (k0_t1 : Fin k0_t1_loop.trips) (c0_i32_217 : BitVec 32) : Fin 3 → Nat :=
  let c0_i32_194 : BitVec 32 := 0#32
  let c1_i32_195 : BitVec 32 := 1#32
  let arg17 : BitVec 32 := Scf.iv c0_i32_194 c1_i32_195 k0_t1
  let c2_i32_216 : BitVec 32 := 2#32
  let v321 : BitVec 32 := Scalar.muli arg17 c2_i32_216
  let v322 : BitVec 32 := Scalar.addi v321 c0_i32_217
  let v323 : Index := Scalar.indexCast v322
  let c0_218 : Index := 0#32
  let c0_219 : Index := 0#32
  ![v323.toNat, 0, 0]
def k0_off4 (k0_t1 : Fin k0_t1_loop.trips) : Fin 3 → Nat :=
  let c0_i32_194 : BitVec 32 := 0#32
  let c1_i32_195 : BitVec 32 := 1#32
  let arg17 : BitVec 32 := Scf.iv c0_i32_194 c1_i32_195 k0_t1
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v329 : Index := Scalar.indexCast v298
  let c0_220 : Index := 0#32
  let c0_221 : Index := 0#32
  ![v329.toNat, 0, 0]
def k0_off5 (k0_t1 : Fin k0_t1_loop.trips) (c0_i32_228 : BitVec 32) : Fin 3 → Nat :=
  let c0_i32_194 : BitVec 32 := 0#32
  let c1_i32_195 : BitVec 32 := 1#32
  let arg17 : BitVec 32 := Scf.iv c0_i32_194 c1_i32_195 k0_t1
  let c2_i32_227 : BitVec 32 := 2#32
  let v349 : BitVec 32 := Scalar.muli arg17 c2_i32_227
  let v350 : BitVec 32 := Scalar.addi v349 c0_i32_228
  let v351 : Index := Scalar.indexCast v350
  let c0_229 : Index := 0#32
  let c128 : Index := 128#32
  ![v351.toNat, 0, 128]
def k0_off6 (k0_t1 : Fin k0_t1_loop.trips) : Fin 3 → Nat :=
  let c0_i32_194 : BitVec 32 := 0#32
  let c1_i32_195 : BitVec 32 := 1#32
  let arg17 : BitVec 32 := Scf.iv c0_i32_194 c1_i32_195 k0_t1
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v357 : Index := Scalar.indexCast v298
  let c0_230 : Index := 0#32
  let c0_231 : Index := 0#32
  ![v357.toNat, 0, 0]
def k0_off7 (k0_t1 : Fin k0_t1_loop.trips) : Fin 3 → Nat :=
  let c0_i32_194 : BitVec 32 := 0#32
  let c1_i32_195 : BitVec 32 := 1#32
  let arg17 : BitVec 32 := Scf.iv c0_i32_194 c1_i32_195 k0_t1
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v436 : Index := Scalar.indexCast v298
  let c0_257 : Index := 0#32
  let c0_258 : Index := 0#32
  ![v436.toNat, 0, 0]
def k0_off8 (k0_t1 : Fin k0_t1_loop.trips) (c0_i32_261 : BitVec 32) : Fin 3 → Nat :=
  let c0_i32_194 : BitVec 32 := 0#32
  let c1_i32_195 : BitVec 32 := 1#32
  let arg17 : BitVec 32 := Scf.iv c0_i32_194 c1_i32_195 k0_t1
  let c2_i32_260 : BitVec 32 := 2#32
  let v441 : BitVec 32 := Scalar.muli arg17 c2_i32_260
  let v442 : BitVec 32 := Scalar.addi v441 c0_i32_261
  let v443 : Index := Scalar.indexCast v442
  let c0_262 : Index := 0#32
  let c0_263 : Index := 0#32
  ![v443.toNat, 0, 0]
def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_194 : BitVec 32 := 0#32
  let c16_i32 : BitVec 32 := 16#32
  let v281 : BitVec 32 := Scalar.addi c0_i32_194 c16_i32
  let c1_i32_195 : BitVec 32 := 1#32
  ⟨c0_i32_194, v281, c1_i32_195⟩
def k0_mult3 (k0_t2 : Fin k0_t2_loop.trips) : BitVec 32 :=
  let c0_i32_194 : BitVec 32 := 0#32
  let c1_i32_195 : BitVec 32 := 1#32
  let arg17 : BitVec 32 := Scf.iv c0_i32_194 c1_i32_195 k0_t2
  let c2_i32_204 : BitVec 32 := 2#32
  let v299 : BitVec 32 := Scalar.muli arg17 c2_i32_204
  let c0_i32_205 : BitVec 32 := 0#32
  let v300 : BitVec 32 := Scalar.addi v299 c0_i32_205
  let c256_i32 : BitVec 32 := 256#32
  let v301 : BitVec 32 := Scalar.muli v300 c256_i32
  v301
def k0_off9 (k0_t2 : Fin k0_t2_loop.trips) (c0_i32_205 : BitVec 32) : Fin 3 → Nat :=
  let c0_206 : Index := 0#32
  let c0_207 : Index := 0#32
  let c0_i32_194 : BitVec 32 := 0#32
  let c1_i32_195 : BitVec 32 := 1#32
  let arg17 : BitVec 32 := Scf.iv c0_i32_194 c1_i32_195 k0_t2
  let c2_i32_204 : BitVec 32 := 2#32
  let v299 : BitVec 32 := Scalar.muli arg17 c2_i32_204
  let v300 : BitVec 32 := Scalar.addi v299 c0_i32_205
  let c256_i32 : BitVec 32 := 256#32
  let v301 : BitVec 32 := Scalar.muli v300 c256_i32
  let v302 : BitVec 32 := v301
  let v303 : Index := Scalar.indexCast v302
  ![0, 0, v303.toNat]
def k0_mult4 (k0_t2 : Fin k0_t2_loop.trips) : BitVec 32 :=
  let c0_i32_194 : BitVec 32 := 0#32
  let c1_i32_195 : BitVec 32 := 1#32
  let arg17 : BitVec 32 := Scf.iv c0_i32_194 c1_i32_195 k0_t2
  let c2_i32_208 : BitVec 32 := 2#32
  let v306 : BitVec 32 := Scalar.muli arg17 c2_i32_208
  let c1_i32_209 : BitVec 32 := 1#32
  let v307 : BitVec 32 := Scalar.addi v306 c1_i32_209
  let c256_i32_210 : BitVec 32 := 256#32
  let v308 : BitVec 32 := Scalar.muli v307 c256_i32_210
  v308
def k0_off10 (k0_t2 : Fin k0_t2_loop.trips) : Fin 3 → Nat :=
  let c0_i32_194 : BitVec 32 := 0#32
  let c1_i32_195 : BitVec 32 := 1#32
  let arg17 : BitVec 32 := Scf.iv c0_i32_194 c1_i32_195 k0_t2
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v314 : Index := Scalar.indexCast v298
  let c0_213 : Index := 0#32
  let c0_214 : Index := 0#32
  ![v314.toNat, 0, 0]
def k0_off11 (k0_t2 : Fin k0_t2_loop.trips) (c0_i32_217 : BitVec 32) : Fin 3 → Nat :=
  let c0_i32_194 : BitVec 32 := 0#32
  let c1_i32_195 : BitVec 32 := 1#32
  let arg17 : BitVec 32 := Scf.iv c0_i32_194 c1_i32_195 k0_t2
  let c2_i32_216 : BitVec 32 := 2#32
  let v321 : BitVec 32 := Scalar.muli arg17 c2_i32_216
  let v322 : BitVec 32 := Scalar.addi v321 c0_i32_217
  let v323 : Index := Scalar.indexCast v322
  let c0_218 : Index := 0#32
  let c0_219 : Index := 0#32
  ![v323.toNat, 0, 0]
def k0_off12 (k0_t2 : Fin k0_t2_loop.trips) : Fin 3 → Nat :=
  let c0_i32_194 : BitVec 32 := 0#32
  let c1_i32_195 : BitVec 32 := 1#32
  let arg17 : BitVec 32 := Scf.iv c0_i32_194 c1_i32_195 k0_t2
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v329 : Index := Scalar.indexCast v298
  let c0_220 : Index := 0#32
  let c0_221 : Index := 0#32
  ![v329.toNat, 0, 0]
def k0_off13 (k0_t2 : Fin k0_t2_loop.trips) (c0_i32_228 : BitVec 32) : Fin 3 → Nat :=
  let c0_i32_194 : BitVec 32 := 0#32
  let c1_i32_195 : BitVec 32 := 1#32
  let arg17 : BitVec 32 := Scf.iv c0_i32_194 c1_i32_195 k0_t2
  let c2_i32_227 : BitVec 32 := 2#32
  let v352 : BitVec 32 := Scalar.muli arg17 c2_i32_227
  let v353 : BitVec 32 := Scalar.addi v352 c0_i32_228
  let v354 : Index := Scalar.indexCast v353
  let c0_229 : Index := 0#32
  let c128 : Index := 128#32
  ![v354.toNat, 0, 128]
def k0_off14 (k0_t2 : Fin k0_t2_loop.trips) : Fin 3 → Nat :=
  let c0_i32_194 : BitVec 32 := 0#32
  let c1_i32_195 : BitVec 32 := 1#32
  let arg17 : BitVec 32 := Scf.iv c0_i32_194 c1_i32_195 k0_t2
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v360 : Index := Scalar.indexCast v298
  let c0_230 : Index := 0#32
  let c0_231 : Index := 0#32
  ![v360.toNat, 0, 0]
def k0_off15 (k0_t2 : Fin k0_t2_loop.trips) : Fin 3 → Nat :=
  let c0_i32_194 : BitVec 32 := 0#32
  let c1_i32_195 : BitVec 32 := 1#32
  let arg17 : BitVec 32 := Scf.iv c0_i32_194 c1_i32_195 k0_t2
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v442 : Index := Scalar.indexCast v298
  let c0_257 : Index := 0#32
  let c0_258 : Index := 0#32
  ![v442.toNat, 0, 0]
def k0_off16 (k0_t2 : Fin k0_t2_loop.trips) (c0_i32_261 : BitVec 32) : Fin 3 → Nat :=
  let c0_i32_194 : BitVec 32 := 0#32
  let c1_i32_195 : BitVec 32 := 1#32
  let arg17 : BitVec 32 := Scf.iv c0_i32_194 c1_i32_195 k0_t2
  let c2_i32_260 : BitVec 32 := 2#32
  let v447 : BitVec 32 := Scalar.muli arg17 c2_i32_260
  let v448 : BitVec 32 := Scalar.addi v447 c0_i32_261
  let v449 : Index := Scalar.indexCast v448
  let c0_262 : Index := 0#32
  let c0_263 : Index := 0#32
  ![v449.toNat, 0, 0]
def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

@[reducible] def k0_t3_loop : Scf.Loop 32 :=
  let c0_i32_194 : BitVec 32 := 0#32
  let c16_i32 : BitVec 32 := 16#32
  let v281 : BitVec 32 := Scalar.addi c0_i32_194 c16_i32
  let c1_i32_195 : BitVec 32 := 1#32
  ⟨c0_i32_194, v281, c1_i32_195⟩
def k0_mult5 (k0_t3 : Fin k0_t3_loop.trips) : BitVec 32 :=
  let c0_i32_194 : BitVec 32 := 0#32
  let c1_i32_195 : BitVec 32 := 1#32
  let arg17 : BitVec 32 := Scf.iv c0_i32_194 c1_i32_195 k0_t3
  let c2_i32_204 : BitVec 32 := 2#32
  let v299 : BitVec 32 := Scalar.muli arg17 c2_i32_204
  let c0_i32_205 : BitVec 32 := 0#32
  let v300 : BitVec 32 := Scalar.addi v299 c0_i32_205
  let c256_i32 : BitVec 32 := 256#32
  let v301 : BitVec 32 := Scalar.muli v300 c256_i32
  v301
def k0_off17 (k0_t3 : Fin k0_t3_loop.trips) (c0_i32_205 : BitVec 32) : Fin 3 → Nat :=
  let c0_206 : Index := 0#32
  let c0_207 : Index := 0#32
  let c0_i32_194 : BitVec 32 := 0#32
  let c1_i32_195 : BitVec 32 := 1#32
  let arg17 : BitVec 32 := Scf.iv c0_i32_194 c1_i32_195 k0_t3
  let c2_i32_204 : BitVec 32 := 2#32
  let v299 : BitVec 32 := Scalar.muli arg17 c2_i32_204
  let v300 : BitVec 32 := Scalar.addi v299 c0_i32_205
  let c256_i32 : BitVec 32 := 256#32
  let v301 : BitVec 32 := Scalar.muli v300 c256_i32
  let v302 : BitVec 32 := v301
  let v303 : Index := Scalar.indexCast v302
  ![0, 0, v303.toNat]
def k0_mult6 (k0_t3 : Fin k0_t3_loop.trips) : BitVec 32 :=
  let c0_i32_194 : BitVec 32 := 0#32
  let c1_i32_195 : BitVec 32 := 1#32
  let arg17 : BitVec 32 := Scf.iv c0_i32_194 c1_i32_195 k0_t3
  let c2_i32_208 : BitVec 32 := 2#32
  let v306 : BitVec 32 := Scalar.muli arg17 c2_i32_208
  let c1_i32_209 : BitVec 32 := 1#32
  let v307 : BitVec 32 := Scalar.addi v306 c1_i32_209
  let c256_i32_210 : BitVec 32 := 256#32
  let v308 : BitVec 32 := Scalar.muli v307 c256_i32_210
  v308
def k0_off18 (k0_t3 : Fin k0_t3_loop.trips) : Fin 3 → Nat :=
  let c0_i32_194 : BitVec 32 := 0#32
  let c1_i32_195 : BitVec 32 := 1#32
  let arg17 : BitVec 32 := Scf.iv c0_i32_194 c1_i32_195 k0_t3
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v314 : Index := Scalar.indexCast v298
  let c0_213 : Index := 0#32
  let c0_214 : Index := 0#32
  ![v314.toNat, 0, 0]
def k0_off19 (k0_t3 : Fin k0_t3_loop.trips) (c0_i32_217 : BitVec 32) : Fin 3 → Nat :=
  let c0_i32_194 : BitVec 32 := 0#32
  let c1_i32_195 : BitVec 32 := 1#32
  let arg17 : BitVec 32 := Scf.iv c0_i32_194 c1_i32_195 k0_t3
  let c2_i32_216 : BitVec 32 := 2#32
  let v321 : BitVec 32 := Scalar.muli arg17 c2_i32_216
  let v322 : BitVec 32 := Scalar.addi v321 c0_i32_217
  let v323 : Index := Scalar.indexCast v322
  let c0_218 : Index := 0#32
  let c0_219 : Index := 0#32
  ![v323.toNat, 0, 0]
def k0_off20 (k0_t3 : Fin k0_t3_loop.trips) : Fin 3 → Nat :=
  let c0_i32_194 : BitVec 32 := 0#32
  let c1_i32_195 : BitVec 32 := 1#32
  let arg17 : BitVec 32 := Scf.iv c0_i32_194 c1_i32_195 k0_t3
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v329 : Index := Scalar.indexCast v298
  let c0_220 : Index := 0#32
  let c0_221 : Index := 0#32
  ![v329.toNat, 0, 0]
def k0_off21 (k0_t3 : Fin k0_t3_loop.trips) (c0_i32_228 : BitVec 32) : Fin 3 → Nat :=
  let c0_i32_194 : BitVec 32 := 0#32
  let c1_i32_195 : BitVec 32 := 1#32
  let arg17 : BitVec 32 := Scf.iv c0_i32_194 c1_i32_195 k0_t3
  let c2_i32_227 : BitVec 32 := 2#32
  let v352 : BitVec 32 := Scalar.muli arg17 c2_i32_227
  let v353 : BitVec 32 := Scalar.addi v352 c0_i32_228
  let v354 : Index := Scalar.indexCast v353
  let c0_229 : Index := 0#32
  let c128 : Index := 128#32
  ![v354.toNat, 0, 128]
def k0_off22 (k0_t3 : Fin k0_t3_loop.trips) : Fin 3 → Nat :=
  let c0_i32_194 : BitVec 32 := 0#32
  let c1_i32_195 : BitVec 32 := 1#32
  let arg17 : BitVec 32 := Scf.iv c0_i32_194 c1_i32_195 k0_t3
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v360 : Index := Scalar.indexCast v298
  let c0_230 : Index := 0#32
  let c0_231 : Index := 0#32
  ![v360.toNat, 0, 0]
def k0_off23 (k0_t3 : Fin k0_t3_loop.trips) : Fin 3 → Nat :=
  let c0_i32_194 : BitVec 32 := 0#32
  let c1_i32_195 : BitVec 32 := 1#32
  let arg17 : BitVec 32 := Scf.iv c0_i32_194 c1_i32_195 k0_t3
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v442 : Index := Scalar.indexCast v298
  let c0_257 : Index := 0#32
  let c0_258 : Index := 0#32
  ![v442.toNat, 0, 0]
def k0_off24 (k0_t3 : Fin k0_t3_loop.trips) (c0_i32_261 : BitVec 32) : Fin 3 → Nat :=
  let c0_i32_194 : BitVec 32 := 0#32
  let c1_i32_195 : BitVec 32 := 1#32
  let arg17 : BitVec 32 := Scf.iv c0_i32_194 c1_i32_195 k0_t3
  let c2_i32_260 : BitVec 32 := 2#32
  let v447 : BitVec 32 := Scalar.muli arg17 c2_i32_260
  let v448 : BitVec 32 := Scalar.addi v447 c0_i32_261
  let v449 : Index := Scalar.indexCast v448
  let c0_262 : Index := 0#32
  let c0_263 : Index := 0#32
  ![v449.toNat, 0, 0]
def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

@[reducible] def k0_t4_loop : Scf.Loop 32 :=
  let c0_i32_194 : BitVec 32 := 0#32
  let c16_i32 : BitVec 32 := 16#32
  let v281 : BitVec 32 := Scalar.addi c0_i32_194 c16_i32
  let c1_i32_195 : BitVec 32 := 1#32
  ⟨c0_i32_194, v281, c1_i32_195⟩
def k0_mult7 (k0_t4 : Fin k0_t4_loop.trips) : BitVec 32 :=
  let c0_i32_194 : BitVec 32 := 0#32
  let c1_i32_195 : BitVec 32 := 1#32
  let arg17 : BitVec 32 := Scf.iv c0_i32_194 c1_i32_195 k0_t4
  let c2_i32_204 : BitVec 32 := 2#32
  let v299 : BitVec 32 := Scalar.muli arg17 c2_i32_204
  let c0_i32_205 : BitVec 32 := 0#32
  let v300 : BitVec 32 := Scalar.addi v299 c0_i32_205
  let c256_i32 : BitVec 32 := 256#32
  let v301 : BitVec 32 := Scalar.muli v300 c256_i32
  v301
def k0_off25 (k0_t4 : Fin k0_t4_loop.trips) (c0_i32_205 : BitVec 32) : Fin 3 → Nat :=
  let c0_206 : Index := 0#32
  let c0_207 : Index := 0#32
  let c0_i32_194 : BitVec 32 := 0#32
  let c1_i32_195 : BitVec 32 := 1#32
  let arg17 : BitVec 32 := Scf.iv c0_i32_194 c1_i32_195 k0_t4
  let c2_i32_204 : BitVec 32 := 2#32
  let v299 : BitVec 32 := Scalar.muli arg17 c2_i32_204
  let v300 : BitVec 32 := Scalar.addi v299 c0_i32_205
  let c256_i32 : BitVec 32 := 256#32
  let v301 : BitVec 32 := Scalar.muli v300 c256_i32
  let v302 : BitVec 32 := v301
  let v303 : Index := Scalar.indexCast v302
  ![0, 0, v303.toNat]
def k0_mult8 (k0_t4 : Fin k0_t4_loop.trips) : BitVec 32 :=
  let c0_i32_194 : BitVec 32 := 0#32
  let c1_i32_195 : BitVec 32 := 1#32
  let arg17 : BitVec 32 := Scf.iv c0_i32_194 c1_i32_195 k0_t4
  let c2_i32_208 : BitVec 32 := 2#32
  let v306 : BitVec 32 := Scalar.muli arg17 c2_i32_208
  let c1_i32_209 : BitVec 32 := 1#32
  let v307 : BitVec 32 := Scalar.addi v306 c1_i32_209
  let c256_i32_210 : BitVec 32 := 256#32
  let v308 : BitVec 32 := Scalar.muli v307 c256_i32_210
  v308
def k0_off26 (k0_t4 : Fin k0_t4_loop.trips) : Fin 3 → Nat :=
  let c0_i32_194 : BitVec 32 := 0#32
  let c1_i32_195 : BitVec 32 := 1#32
  let arg17 : BitVec 32 := Scf.iv c0_i32_194 c1_i32_195 k0_t4
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v314 : Index := Scalar.indexCast v298
  let c0_213 : Index := 0#32
  let c0_214 : Index := 0#32
  ![v314.toNat, 0, 0]
def k0_off27 (k0_t4 : Fin k0_t4_loop.trips) (c0_i32_217 : BitVec 32) : Fin 3 → Nat :=
  let c0_i32_194 : BitVec 32 := 0#32
  let c1_i32_195 : BitVec 32 := 1#32
  let arg17 : BitVec 32 := Scf.iv c0_i32_194 c1_i32_195 k0_t4
  let c2_i32_216 : BitVec 32 := 2#32
  let v321 : BitVec 32 := Scalar.muli arg17 c2_i32_216
  let v322 : BitVec 32 := Scalar.addi v321 c0_i32_217
  let v323 : Index := Scalar.indexCast v322
  let c0_218 : Index := 0#32
  let c0_219 : Index := 0#32
  ![v323.toNat, 0, 0]
def k0_off28 (k0_t4 : Fin k0_t4_loop.trips) : Fin 3 → Nat :=
  let c0_i32_194 : BitVec 32 := 0#32
  let c1_i32_195 : BitVec 32 := 1#32
  let arg17 : BitVec 32 := Scf.iv c0_i32_194 c1_i32_195 k0_t4
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v329 : Index := Scalar.indexCast v298
  let c0_220 : Index := 0#32
  let c0_221 : Index := 0#32
  ![v329.toNat, 0, 0]
def k0_off29 (k0_t4 : Fin k0_t4_loop.trips) (c0_i32_228 : BitVec 32) : Fin 3 → Nat :=
  let c0_i32_194 : BitVec 32 := 0#32
  let c1_i32_195 : BitVec 32 := 1#32
  let arg17 : BitVec 32 := Scf.iv c0_i32_194 c1_i32_195 k0_t4
  let c2_i32_227 : BitVec 32 := 2#32
  let v352 : BitVec 32 := Scalar.muli arg17 c2_i32_227
  let v353 : BitVec 32 := Scalar.addi v352 c0_i32_228
  let v354 : Index := Scalar.indexCast v353
  let c0_229 : Index := 0#32
  let c128 : Index := 128#32
  ![v354.toNat, 0, 128]
def k0_off30 (k0_t4 : Fin k0_t4_loop.trips) : Fin 3 → Nat :=
  let c0_i32_194 : BitVec 32 := 0#32
  let c1_i32_195 : BitVec 32 := 1#32
  let arg17 : BitVec 32 := Scf.iv c0_i32_194 c1_i32_195 k0_t4
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v360 : Index := Scalar.indexCast v298
  let c0_230 : Index := 0#32
  let c0_231 : Index := 0#32
  ![v360.toNat, 0, 0]
def k0_off31 (k0_t4 : Fin k0_t4_loop.trips) : Fin 3 → Nat :=
  let c0_i32_194 : BitVec 32 := 0#32
  let c1_i32_195 : BitVec 32 := 1#32
  let arg17 : BitVec 32 := Scf.iv c0_i32_194 c1_i32_195 k0_t4
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v442 : Index := Scalar.indexCast v298
  let c0_257 : Index := 0#32
  let c0_258 : Index := 0#32
  ![v442.toNat, 0, 0]
def k0_off32 (k0_t4 : Fin k0_t4_loop.trips) (c0_i32_261 : BitVec 32) : Fin 3 → Nat :=
  let c0_i32_194 : BitVec 32 := 0#32
  let c1_i32_195 : BitVec 32 := 1#32
  let arg17 : BitVec 32 := Scf.iv c0_i32_194 c1_i32_195 k0_t4
  let c2_i32_260 : BitVec 32 := 2#32
  let v447 : BitVec 32 := Scalar.muli arg17 c2_i32_260
  let v448 : BitVec 32 := Scalar.addi v447 c0_i32_261
  let v449 : Index := Scalar.indexCast v448
  let c0_262 : Index := 0#32
  let c0_263 : Index := 0#32
  ![v449.toNat, 0, 0]
def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

@[reducible] def k0_t5_loop : Scf.Loop 32 :=
  let c0_i32_194 : BitVec 32 := 0#32
  let c16_i32 : BitVec 32 := 16#32
  let v281 : BitVec 32 := Scalar.addi c0_i32_194 c16_i32
  let c1_i32_195 : BitVec 32 := 1#32
  ⟨c0_i32_194, v281, c1_i32_195⟩
def k0_mult9 (k0_t5 : Fin k0_t5_loop.trips) : BitVec 32 :=
  let c0_i32_194 : BitVec 32 := 0#32
  let c1_i32_195 : BitVec 32 := 1#32
  let arg17 : BitVec 32 := Scf.iv c0_i32_194 c1_i32_195 k0_t5
  let c2_i32_204 : BitVec 32 := 2#32
  let v299 : BitVec 32 := Scalar.muli arg17 c2_i32_204
  let c0_i32_205 : BitVec 32 := 0#32
  let v300 : BitVec 32 := Scalar.addi v299 c0_i32_205
  let c256_i32 : BitVec 32 := 256#32
  let v301 : BitVec 32 := Scalar.muli v300 c256_i32
  v301
def k0_off33 (k0_t5 : Fin k0_t5_loop.trips) (c0_i32_205 : BitVec 32) : Fin 3 → Nat :=
  let c0_206 : Index := 0#32
  let c0_207 : Index := 0#32
  let c0_i32_194 : BitVec 32 := 0#32
  let c1_i32_195 : BitVec 32 := 1#32
  let arg17 : BitVec 32 := Scf.iv c0_i32_194 c1_i32_195 k0_t5
  let c2_i32_204 : BitVec 32 := 2#32
  let v299 : BitVec 32 := Scalar.muli arg17 c2_i32_204
  let v300 : BitVec 32 := Scalar.addi v299 c0_i32_205
  let c256_i32 : BitVec 32 := 256#32
  let v301 : BitVec 32 := Scalar.muli v300 c256_i32
  let v302 : BitVec 32 := v301
  let v303 : Index := Scalar.indexCast v302
  ![0, 0, v303.toNat]
def k0_mult10 (k0_t5 : Fin k0_t5_loop.trips) : BitVec 32 :=
  let c0_i32_194 : BitVec 32 := 0#32
  let c1_i32_195 : BitVec 32 := 1#32
  let arg17 : BitVec 32 := Scf.iv c0_i32_194 c1_i32_195 k0_t5
  let c2_i32_208 : BitVec 32 := 2#32
  let v306 : BitVec 32 := Scalar.muli arg17 c2_i32_208
  let c1_i32_209 : BitVec 32 := 1#32
  let v307 : BitVec 32 := Scalar.addi v306 c1_i32_209
  let c256_i32_210 : BitVec 32 := 256#32
  let v308 : BitVec 32 := Scalar.muli v307 c256_i32_210
  v308
def k0_off34 (k0_t5 : Fin k0_t5_loop.trips) : Fin 3 → Nat :=
  let c0_i32_194 : BitVec 32 := 0#32
  let c1_i32_195 : BitVec 32 := 1#32
  let arg17 : BitVec 32 := Scf.iv c0_i32_194 c1_i32_195 k0_t5
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v314 : Index := Scalar.indexCast v298
  let c0_213 : Index := 0#32
  let c0_214 : Index := 0#32
  ![v314.toNat, 0, 0]
def k0_off35 (k0_t5 : Fin k0_t5_loop.trips) (c0_i32_217 : BitVec 32) : Fin 3 → Nat :=
  let c0_i32_194 : BitVec 32 := 0#32
  let c1_i32_195 : BitVec 32 := 1#32
  let arg17 : BitVec 32 := Scf.iv c0_i32_194 c1_i32_195 k0_t5
  let c2_i32_216 : BitVec 32 := 2#32
  let v321 : BitVec 32 := Scalar.muli arg17 c2_i32_216
  let v322 : BitVec 32 := Scalar.addi v321 c0_i32_217
  let v323 : Index := Scalar.indexCast v322
  let c0_218 : Index := 0#32
  let c0_219 : Index := 0#32
  ![v323.toNat, 0, 0]
def k0_off36 (k0_t5 : Fin k0_t5_loop.trips) : Fin 3 → Nat :=
  let c0_i32_194 : BitVec 32 := 0#32
  let c1_i32_195 : BitVec 32 := 1#32
  let arg17 : BitVec 32 := Scf.iv c0_i32_194 c1_i32_195 k0_t5
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v329 : Index := Scalar.indexCast v298
  let c0_220 : Index := 0#32
  let c0_221 : Index := 0#32
  ![v329.toNat, 0, 0]
def k0_off37 (k0_t5 : Fin k0_t5_loop.trips) (c0_i32_228 : BitVec 32) : Fin 3 → Nat :=
  let c0_i32_194 : BitVec 32 := 0#32
  let c1_i32_195 : BitVec 32 := 1#32
  let arg17 : BitVec 32 := Scf.iv c0_i32_194 c1_i32_195 k0_t5
  let c2_i32_227 : BitVec 32 := 2#32
  let v352 : BitVec 32 := Scalar.muli arg17 c2_i32_227
  let v353 : BitVec 32 := Scalar.addi v352 c0_i32_228
  let v354 : Index := Scalar.indexCast v353
  let c0_229 : Index := 0#32
  let c128 : Index := 128#32
  ![v354.toNat, 0, 128]
def k0_off38 (k0_t5 : Fin k0_t5_loop.trips) : Fin 3 → Nat :=
  let c0_i32_194 : BitVec 32 := 0#32
  let c1_i32_195 : BitVec 32 := 1#32
  let arg17 : BitVec 32 := Scf.iv c0_i32_194 c1_i32_195 k0_t5
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v360 : Index := Scalar.indexCast v298
  let c0_230 : Index := 0#32
  let c0_231 : Index := 0#32
  ![v360.toNat, 0, 0]
def k0_off39 (k0_t5 : Fin k0_t5_loop.trips) : Fin 3 → Nat :=
  let c0_i32_194 : BitVec 32 := 0#32
  let c1_i32_195 : BitVec 32 := 1#32
  let arg17 : BitVec 32 := Scf.iv c0_i32_194 c1_i32_195 k0_t5
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v442 : Index := Scalar.indexCast v298
  let c0_257 : Index := 0#32
  let c0_258 : Index := 0#32
  ![v442.toNat, 0, 0]
def k0_off40 (k0_t5 : Fin k0_t5_loop.trips) (c0_i32_261 : BitVec 32) : Fin 3 → Nat :=
  let c0_i32_194 : BitVec 32 := 0#32
  let c1_i32_195 : BitVec 32 := 1#32
  let arg17 : BitVec 32 := Scf.iv c0_i32_194 c1_i32_195 k0_t5
  let c2_i32_260 : BitVec 32 := 2#32
  let v447 : BitVec 32 := Scalar.muli arg17 c2_i32_260
  let v448 : BitVec 32 := Scalar.addi v447 c0_i32_261
  let v449 : Index := Scalar.indexCast v448
  let c0_262 : Index := 0#32
  let c0_263 : Index := 0#32
  ![v449.toNat, 0, 0]
def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

@[reducible] def k0_t6_loop : Scf.Loop 32 :=
  let c0_i32_194 : BitVec 32 := 0#32
  let c16_i32 : BitVec 32 := 16#32
  let v281 : BitVec 32 := Scalar.addi c0_i32_194 c16_i32
  let c1_i32_195 : BitVec 32 := 1#32
  ⟨c0_i32_194, v281, c1_i32_195⟩
def k0_mult11 (k0_t6 : Fin k0_t6_loop.trips) : BitVec 32 :=
  let c0_i32_194 : BitVec 32 := 0#32
  let c1_i32_195 : BitVec 32 := 1#32
  let arg17 : BitVec 32 := Scf.iv c0_i32_194 c1_i32_195 k0_t6
  let c2_i32_204 : BitVec 32 := 2#32
  let v299 : BitVec 32 := Scalar.muli arg17 c2_i32_204
  let c0_i32_205 : BitVec 32 := 0#32
  let v300 : BitVec 32 := Scalar.addi v299 c0_i32_205
  let c256_i32 : BitVec 32 := 256#32
  let v301 : BitVec 32 := Scalar.muli v300 c256_i32
  v301
def k0_off41 (k0_t6 : Fin k0_t6_loop.trips) (c0_i32_205 : BitVec 32) : Fin 3 → Nat :=
  let c0_206 : Index := 0#32
  let c0_207 : Index := 0#32
  let c0_i32_194 : BitVec 32 := 0#32
  let c1_i32_195 : BitVec 32 := 1#32
  let arg17 : BitVec 32 := Scf.iv c0_i32_194 c1_i32_195 k0_t6
  let c2_i32_204 : BitVec 32 := 2#32
  let v299 : BitVec 32 := Scalar.muli arg17 c2_i32_204
  let v300 : BitVec 32 := Scalar.addi v299 c0_i32_205
  let c256_i32 : BitVec 32 := 256#32
  let v301 : BitVec 32 := Scalar.muli v300 c256_i32
  let v302 : BitVec 32 := v301
  let v303 : Index := Scalar.indexCast v302
  ![0, 0, v303.toNat]
def k0_mult12 (k0_t6 : Fin k0_t6_loop.trips) : BitVec 32 :=
  let c0_i32_194 : BitVec 32 := 0#32
  let c1_i32_195 : BitVec 32 := 1#32
  let arg17 : BitVec 32 := Scf.iv c0_i32_194 c1_i32_195 k0_t6
  let c2_i32_208 : BitVec 32 := 2#32
  let v306 : BitVec 32 := Scalar.muli arg17 c2_i32_208
  let c1_i32_209 : BitVec 32 := 1#32
  let v307 : BitVec 32 := Scalar.addi v306 c1_i32_209
  let c256_i32_210 : BitVec 32 := 256#32
  let v308 : BitVec 32 := Scalar.muli v307 c256_i32_210
  v308
def k0_off42 (k0_t6 : Fin k0_t6_loop.trips) : Fin 3 → Nat :=
  let c0_i32_194 : BitVec 32 := 0#32
  let c1_i32_195 : BitVec 32 := 1#32
  let arg17 : BitVec 32 := Scf.iv c0_i32_194 c1_i32_195 k0_t6
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v314 : Index := Scalar.indexCast v298
  let c0_213 : Index := 0#32
  let c0_214 : Index := 0#32
  ![v314.toNat, 0, 0]
def k0_off43 (k0_t6 : Fin k0_t6_loop.trips) (c0_i32_217 : BitVec 32) : Fin 3 → Nat :=
  let c0_i32_194 : BitVec 32 := 0#32
  let c1_i32_195 : BitVec 32 := 1#32
  let arg17 : BitVec 32 := Scf.iv c0_i32_194 c1_i32_195 k0_t6
  let c2_i32_216 : BitVec 32 := 2#32
  let v321 : BitVec 32 := Scalar.muli arg17 c2_i32_216
  let v322 : BitVec 32 := Scalar.addi v321 c0_i32_217
  let v323 : Index := Scalar.indexCast v322
  let c0_218 : Index := 0#32
  let c0_219 : Index := 0#32
  ![v323.toNat, 0, 0]
def k0_off44 (k0_t6 : Fin k0_t6_loop.trips) : Fin 3 → Nat :=
  let c0_i32_194 : BitVec 32 := 0#32
  let c1_i32_195 : BitVec 32 := 1#32
  let arg17 : BitVec 32 := Scf.iv c0_i32_194 c1_i32_195 k0_t6
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v329 : Index := Scalar.indexCast v298
  let c0_220 : Index := 0#32
  let c0_221 : Index := 0#32
  ![v329.toNat, 0, 0]
def k0_off45 (k0_t6 : Fin k0_t6_loop.trips) (c0_i32_228 : BitVec 32) : Fin 3 → Nat :=
  let c0_i32_194 : BitVec 32 := 0#32
  let c1_i32_195 : BitVec 32 := 1#32
  let arg17 : BitVec 32 := Scf.iv c0_i32_194 c1_i32_195 k0_t6
  let c2_i32_227 : BitVec 32 := 2#32
  let v352 : BitVec 32 := Scalar.muli arg17 c2_i32_227
  let v353 : BitVec 32 := Scalar.addi v352 c0_i32_228
  let v354 : Index := Scalar.indexCast v353
  let c0_229 : Index := 0#32
  let c128 : Index := 128#32
  ![v354.toNat, 0, 128]
def k0_off46 (k0_t6 : Fin k0_t6_loop.trips) : Fin 3 → Nat :=
  let c0_i32_194 : BitVec 32 := 0#32
  let c1_i32_195 : BitVec 32 := 1#32
  let arg17 : BitVec 32 := Scf.iv c0_i32_194 c1_i32_195 k0_t6
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v360 : Index := Scalar.indexCast v298
  let c0_230 : Index := 0#32
  let c0_231 : Index := 0#32
  ![v360.toNat, 0, 0]
def k0_off47 (k0_t6 : Fin k0_t6_loop.trips) : Fin 3 → Nat :=
  let c0_i32_194 : BitVec 32 := 0#32
  let c1_i32_195 : BitVec 32 := 1#32
  let arg17 : BitVec 32 := Scf.iv c0_i32_194 c1_i32_195 k0_t6
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v442 : Index := Scalar.indexCast v298
  let c0_257 : Index := 0#32
  let c0_258 : Index := 0#32
  ![v442.toNat, 0, 0]
def k0_off48 (k0_t6 : Fin k0_t6_loop.trips) (c0_i32_261 : BitVec 32) : Fin 3 → Nat :=
  let c0_i32_194 : BitVec 32 := 0#32
  let c1_i32_195 : BitVec 32 := 1#32
  let arg17 : BitVec 32 := Scf.iv c0_i32_194 c1_i32_195 k0_t6
  let c2_i32_260 : BitVec 32 := 2#32
  let v447 : BitVec 32 := Scalar.muli arg17 c2_i32_260
  let v448 : BitVec 32 := Scalar.addi v447 c0_i32_261
  let v449 : Index := Scalar.indexCast v448
  let c0_262 : Index := 0#32
  let c0_263 : Index := 0#32
  ![v449.toNat, 0, 0]
def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

@[reducible] def k0_t7_loop : Scf.Loop 32 :=
  let c0_i32_194 : BitVec 32 := 0#32
  let c16_i32 : BitVec 32 := 16#32
  let v281 : BitVec 32 := Scalar.addi c0_i32_194 c16_i32
  let c1_i32_195 : BitVec 32 := 1#32
  ⟨c0_i32_194, v281, c1_i32_195⟩
def k0_mult13 (k0_t7 : Fin k0_t7_loop.trips) : BitVec 32 :=
  let c0_i32_194 : BitVec 32 := 0#32
  let c1_i32_195 : BitVec 32 := 1#32
  let arg17 : BitVec 32 := Scf.iv c0_i32_194 c1_i32_195 k0_t7
  let c2_i32_204 : BitVec 32 := 2#32
  let v299 : BitVec 32 := Scalar.muli arg17 c2_i32_204
  let c0_i32_205 : BitVec 32 := 0#32
  let v300 : BitVec 32 := Scalar.addi v299 c0_i32_205
  let c256_i32 : BitVec 32 := 256#32
  let v301 : BitVec 32 := Scalar.muli v300 c256_i32
  v301
def k0_off49 (k0_t7 : Fin k0_t7_loop.trips) (c0_i32_205 : BitVec 32) : Fin 3 → Nat :=
  let c0_206 : Index := 0#32
  let c0_207 : Index := 0#32
  let c0_i32_194 : BitVec 32 := 0#32
  let c1_i32_195 : BitVec 32 := 1#32
  let arg17 : BitVec 32 := Scf.iv c0_i32_194 c1_i32_195 k0_t7
  let c2_i32_204 : BitVec 32 := 2#32
  let v299 : BitVec 32 := Scalar.muli arg17 c2_i32_204
  let v300 : BitVec 32 := Scalar.addi v299 c0_i32_205
  let c256_i32 : BitVec 32 := 256#32
  let v301 : BitVec 32 := Scalar.muli v300 c256_i32
  let v302 : BitVec 32 := v301
  let v303 : Index := Scalar.indexCast v302
  ![0, 0, v303.toNat]
def k0_mult14 (k0_t7 : Fin k0_t7_loop.trips) : BitVec 32 :=
  let c0_i32_194 : BitVec 32 := 0#32
  let c1_i32_195 : BitVec 32 := 1#32
  let arg17 : BitVec 32 := Scf.iv c0_i32_194 c1_i32_195 k0_t7
  let c2_i32_208 : BitVec 32 := 2#32
  let v306 : BitVec 32 := Scalar.muli arg17 c2_i32_208
  let c1_i32_209 : BitVec 32 := 1#32
  let v307 : BitVec 32 := Scalar.addi v306 c1_i32_209
  let c256_i32_210 : BitVec 32 := 256#32
  let v308 : BitVec 32 := Scalar.muli v307 c256_i32_210
  v308
def k0_off50 (k0_t7 : Fin k0_t7_loop.trips) : Fin 3 → Nat :=
  let c0_i32_194 : BitVec 32 := 0#32
  let c1_i32_195 : BitVec 32 := 1#32
  let arg17 : BitVec 32 := Scf.iv c0_i32_194 c1_i32_195 k0_t7
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v314 : Index := Scalar.indexCast v298
  let c0_213 : Index := 0#32
  let c0_214 : Index := 0#32
  ![v314.toNat, 0, 0]
def k0_off51 (k0_t7 : Fin k0_t7_loop.trips) (c0_i32_217 : BitVec 32) : Fin 3 → Nat :=
  let c0_i32_194 : BitVec 32 := 0#32
  let c1_i32_195 : BitVec 32 := 1#32
  let arg17 : BitVec 32 := Scf.iv c0_i32_194 c1_i32_195 k0_t7
  let c2_i32_216 : BitVec 32 := 2#32
  let v321 : BitVec 32 := Scalar.muli arg17 c2_i32_216
  let v322 : BitVec 32 := Scalar.addi v321 c0_i32_217
  let v323 : Index := Scalar.indexCast v322
  let c0_218 : Index := 0#32
  let c0_219 : Index := 0#32
  ![v323.toNat, 0, 0]
def k0_off52 (k0_t7 : Fin k0_t7_loop.trips) : Fin 3 → Nat :=
  let c0_i32_194 : BitVec 32 := 0#32
  let c1_i32_195 : BitVec 32 := 1#32
  let arg17 : BitVec 32 := Scf.iv c0_i32_194 c1_i32_195 k0_t7
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v329 : Index := Scalar.indexCast v298
  let c0_220 : Index := 0#32
  let c0_221 : Index := 0#32
  ![v329.toNat, 0, 0]
def k0_off53 (k0_t7 : Fin k0_t7_loop.trips) (c0_i32_228 : BitVec 32) : Fin 3 → Nat :=
  let c0_i32_194 : BitVec 32 := 0#32
  let c1_i32_195 : BitVec 32 := 1#32
  let arg17 : BitVec 32 := Scf.iv c0_i32_194 c1_i32_195 k0_t7
  let c2_i32_227 : BitVec 32 := 2#32
  let v352 : BitVec 32 := Scalar.muli arg17 c2_i32_227
  let v353 : BitVec 32 := Scalar.addi v352 c0_i32_228
  let v354 : Index := Scalar.indexCast v353
  let c0_229 : Index := 0#32
  let c128 : Index := 128#32
  ![v354.toNat, 0, 128]
def k0_off54 (k0_t7 : Fin k0_t7_loop.trips) : Fin 3 → Nat :=
  let c0_i32_194 : BitVec 32 := 0#32
  let c1_i32_195 : BitVec 32 := 1#32
  let arg17 : BitVec 32 := Scf.iv c0_i32_194 c1_i32_195 k0_t7
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v360 : Index := Scalar.indexCast v298
  let c0_230 : Index := 0#32
  let c0_231 : Index := 0#32
  ![v360.toNat, 0, 0]
def k0_off55 (k0_t7 : Fin k0_t7_loop.trips) : Fin 3 → Nat :=
  let c0_i32_194 : BitVec 32 := 0#32
  let c1_i32_195 : BitVec 32 := 1#32
  let arg17 : BitVec 32 := Scf.iv c0_i32_194 c1_i32_195 k0_t7
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v442 : Index := Scalar.indexCast v298
  let c0_257 : Index := 0#32
  let c0_258 : Index := 0#32
  ![v442.toNat, 0, 0]
def k0_off56 (k0_t7 : Fin k0_t7_loop.trips) (c0_i32_261 : BitVec 32) : Fin 3 → Nat :=
  let c0_i32_194 : BitVec 32 := 0#32
  let c1_i32_195 : BitVec 32 := 1#32
  let arg17 : BitVec 32 := Scf.iv c0_i32_194 c1_i32_195 k0_t7
  let c2_i32_260 : BitVec 32 := 2#32
  let v447 : BitVec 32 := Scalar.muli arg17 c2_i32_260
  let v448 : BitVec 32 := Scalar.addi v447 c0_i32_261
  let v449 : Index := Scalar.indexCast v448
  let c0_262 : Index := 0#32
  let c0_263 : Index := 0#32
  ![v449.toNat, 0, 0]
def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

@[reducible] def k0_t8_loop : Scf.Loop 32 :=
  let c0_i32_194 : BitVec 32 := 0#32
  let c16_i32 : BitVec 32 := 16#32
  let v281 : BitVec 32 := Scalar.addi c0_i32_194 c16_i32
  let c1_i32_195 : BitVec 32 := 1#32
  ⟨c0_i32_194, v281, c1_i32_195⟩
def k0_mult15 (k0_t8 : Fin k0_t8_loop.trips) : BitVec 32 :=
  let c0_i32_194 : BitVec 32 := 0#32
  let c1_i32_195 : BitVec 32 := 1#32
  let arg17 : BitVec 32 := Scf.iv c0_i32_194 c1_i32_195 k0_t8
  let c2_i32_204 : BitVec 32 := 2#32
  let v299 : BitVec 32 := Scalar.muli arg17 c2_i32_204
  let c0_i32_205 : BitVec 32 := 0#32
  let v300 : BitVec 32 := Scalar.addi v299 c0_i32_205
  let c256_i32 : BitVec 32 := 256#32
  let v301 : BitVec 32 := Scalar.muli v300 c256_i32
  v301
def k0_off57 (k0_t8 : Fin k0_t8_loop.trips) (c0_i32_205 : BitVec 32) : Fin 3 → Nat :=
  let c0_206 : Index := 0#32
  let c0_207 : Index := 0#32
  let c0_i32_194 : BitVec 32 := 0#32
  let c1_i32_195 : BitVec 32 := 1#32
  let arg17 : BitVec 32 := Scf.iv c0_i32_194 c1_i32_195 k0_t8
  let c2_i32_204 : BitVec 32 := 2#32
  let v299 : BitVec 32 := Scalar.muli arg17 c2_i32_204
  let v300 : BitVec 32 := Scalar.addi v299 c0_i32_205
  let c256_i32 : BitVec 32 := 256#32
  let v301 : BitVec 32 := Scalar.muli v300 c256_i32
  let v302 : BitVec 32 := v301
  let v303 : Index := Scalar.indexCast v302
  ![0, 0, v303.toNat]
def k0_mult16 (k0_t8 : Fin k0_t8_loop.trips) : BitVec 32 :=
  let c0_i32_194 : BitVec 32 := 0#32
  let c1_i32_195 : BitVec 32 := 1#32
  let arg17 : BitVec 32 := Scf.iv c0_i32_194 c1_i32_195 k0_t8
  let c2_i32_208 : BitVec 32 := 2#32
  let v306 : BitVec 32 := Scalar.muli arg17 c2_i32_208
  let c1_i32_209 : BitVec 32 := 1#32
  let v307 : BitVec 32 := Scalar.addi v306 c1_i32_209
  let c256_i32_210 : BitVec 32 := 256#32
  let v308 : BitVec 32 := Scalar.muli v307 c256_i32_210
  v308
def k0_off58 (k0_t8 : Fin k0_t8_loop.trips) : Fin 3 → Nat :=
  let c0_i32_194 : BitVec 32 := 0#32
  let c1_i32_195 : BitVec 32 := 1#32
  let arg17 : BitVec 32 := Scf.iv c0_i32_194 c1_i32_195 k0_t8
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v314 : Index := Scalar.indexCast v298
  let c0_213 : Index := 0#32
  let c0_214 : Index := 0#32
  ![v314.toNat, 0, 0]
def k0_off59 (k0_t8 : Fin k0_t8_loop.trips) (c0_i32_217 : BitVec 32) : Fin 3 → Nat :=
  let c0_i32_194 : BitVec 32 := 0#32
  let c1_i32_195 : BitVec 32 := 1#32
  let arg17 : BitVec 32 := Scf.iv c0_i32_194 c1_i32_195 k0_t8
  let c2_i32_216 : BitVec 32 := 2#32
  let v321 : BitVec 32 := Scalar.muli arg17 c2_i32_216
  let v322 : BitVec 32 := Scalar.addi v321 c0_i32_217
  let v323 : Index := Scalar.indexCast v322
  let c0_218 : Index := 0#32
  let c0_219 : Index := 0#32
  ![v323.toNat, 0, 0]
def k0_off60 (k0_t8 : Fin k0_t8_loop.trips) : Fin 3 → Nat :=
  let c0_i32_194 : BitVec 32 := 0#32
  let c1_i32_195 : BitVec 32 := 1#32
  let arg17 : BitVec 32 := Scf.iv c0_i32_194 c1_i32_195 k0_t8
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v329 : Index := Scalar.indexCast v298
  let c0_220 : Index := 0#32
  let c0_221 : Index := 0#32
  ![v329.toNat, 0, 0]
def k0_off61 (k0_t8 : Fin k0_t8_loop.trips) (c0_i32_228 : BitVec 32) : Fin 3 → Nat :=
  let c0_i32_194 : BitVec 32 := 0#32
  let c1_i32_195 : BitVec 32 := 1#32
  let arg17 : BitVec 32 := Scf.iv c0_i32_194 c1_i32_195 k0_t8
  let c2_i32_227 : BitVec 32 := 2#32
  let v352 : BitVec 32 := Scalar.muli arg17 c2_i32_227
  let v353 : BitVec 32 := Scalar.addi v352 c0_i32_228
  let v354 : Index := Scalar.indexCast v353
  let c0_229 : Index := 0#32
  let c128 : Index := 128#32
  ![v354.toNat, 0, 128]
def k0_off62 (k0_t8 : Fin k0_t8_loop.trips) : Fin 3 → Nat :=
  let c0_i32_194 : BitVec 32 := 0#32
  let c1_i32_195 : BitVec 32 := 1#32
  let arg17 : BitVec 32 := Scf.iv c0_i32_194 c1_i32_195 k0_t8
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v360 : Index := Scalar.indexCast v298
  let c0_230 : Index := 0#32
  let c0_231 : Index := 0#32
  ![v360.toNat, 0, 0]
def k0_off63 (k0_t8 : Fin k0_t8_loop.trips) : Fin 3 → Nat :=
  let c0_i32_194 : BitVec 32 := 0#32
  let c1_i32_195 : BitVec 32 := 1#32
  let arg17 : BitVec 32 := Scf.iv c0_i32_194 c1_i32_195 k0_t8
  let c0_i32_198 : BitVec 32 := 0#32
  let v283 : BitVec 1 := Scalar.cmpi .sgt arg17 c0_i32_198
  let v284 : BitVec 32 := Scalar.extui v283
  let c0_i32_199 : BitVec 32 := 0#32
  let v285 : BitVec 1 := Scalar.cmpi .slt arg17 c0_i32_199
  let v286 : BitVec 32 := Scalar.extui v285
  let v287 : BitVec 32 := Scalar.subi v284 v286
  let c2_i32_197 : BitVec 32 := 2#32
  let c0_i32_200 : BitVec 32 := 0#32
  let v288 : BitVec 1 := Scalar.cmpi .sgt c2_i32_197 c0_i32_200
  let v289 : BitVec 32 := Scalar.extui v288
  let c0_i32_201 : BitVec 32 := 0#32
  let v290 : BitVec 1 := Scalar.cmpi .slt c2_i32_197 c0_i32_201
  let v291 : BitVec 32 := Scalar.extui v290
  let v292 : BitVec 32 := Scalar.subi v289 v291
  let v293 : BitVec 1 := Scalar.cmpi .ne v287 v292
  let v294 : BitVec 32 := Scalar.remsi arg17 c2_i32_197
  let c0_i32_202 : BitVec 32 := 0#32
  let v295 : BitVec 1 := Scalar.cmpi .ne v294 c0_i32_202
  let v296 : BitVec 1 := Scalar.andi v293 v295
  let v282 : BitVec 32 := Scalar.divsi arg17 c2_i32_197
  let c1_i32_203 : BitVec 32 := 1#32
  let v297 : BitVec 32 := Scalar.subi v282 c1_i32_203
  let v298 : BitVec 32 := Scalar.select v296 v297 v282
  let v442 : Index := Scalar.indexCast v298
  let c0_257 : Index := 0#32
  let c0_258 : Index := 0#32
  ![v442.toNat, 0, 0]
def k0_off64 (k0_t8 : Fin k0_t8_loop.trips) (c0_i32_261 : BitVec 32) : Fin 3 → Nat :=
  let c0_i32_194 : BitVec 32 := 0#32
  let c1_i32_195 : BitVec 32 := 1#32
  let arg17 : BitVec 32 := Scf.iv c0_i32_194 c1_i32_195 k0_t8
  let c2_i32_260 : BitVec 32 := 2#32
  let v447 : BitVec 32 := Scalar.muli arg17 c2_i32_260
  let v448 : BitVec 32 := Scalar.addi v447 c0_i32_261
  let v449 : Index := Scalar.indexCast v448
  let c0_262 : Index := 0#32
  let c0_263 : Index := 0#32
  ![v449.toNat, 0, 0]
@[reducible] def k0_t9_loop : Scf.Loop 32 :=
  let c0_i32_27 : BitVec 32 := 0#32
  let c32_i32 : BitVec 32 := 32#32
  let v75 : BitVec 32 := Scalar.addi c0_i32_27 c32_i32
  let c1_i32_28 : BitVec 32 := 1#32
  ⟨c0_i32_27, v75, c1_i32_28⟩
def k0_off65 (k0_t9 : Fin k0_t9_loop.trips) : Fin 3 → Nat :=
  let c0_i32_27 : BitVec 32 := 0#32
  let c1_i32_28 : BitVec 32 := 1#32
  let arg17 : BitVec 32 := Scf.iv c0_i32_27 c1_i32_28 k0_t9
  let v76 : Index := Scalar.indexCast arg17
  let c0_30 : Index := 0#32
  let c0_31 : Index := 0#32
  ![v76.toNat, 0, 0]
def k0_mult17 (k0_t9 : Fin k0_t9_loop.trips) : BitVec 32 :=
  let c0_i32_27 : BitVec 32 := 0#32
  let c1_i32_28 : BitVec 32 := 1#32
  let arg17 : BitVec 32 := Scf.iv c0_i32_27 c1_i32_28 k0_t9
  let c256_i32 : BitVec 32 := 256#32
  let v87 : BitVec 32 := Scalar.muli arg17 c256_i32
  v87
def k0_off66 (k0_t9 : Fin k0_t9_loop.trips) : Fin 3 → Nat :=
  let c0_34 : Index := 0#32
  let c0_35 : Index := 0#32
  let c0_i32_27 : BitVec 32 := 0#32
  let c1_i32_28 : BitVec 32 := 1#32
  let arg17 : BitVec 32 := Scf.iv c0_i32_27 c1_i32_28 k0_t9
  let c256_i32 : BitVec 32 := 256#32
  let v87 : BitVec 32 := Scalar.muli arg17 c256_i32
  let v88 : BitVec 32 := v87
  let v89 : Index := Scalar.indexCast v88
  ![0, 0, v89.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e_sm" => some (((Real.log 2)⁻¹ * 16⁻¹ : ℝ) : EReal)
  | _ => none
-- ==== ReferenceIdeal.lean ====
abbrev S8x2048x8192 : Shape := ⟨3, ![8, 2048, 8192]⟩
abbrev S8x2048x32 : Shape := ⟨3, ![8, 2048, 32]⟩
abbrev S8x2048x2048 : Shape := ⟨3, ![8, 2048, 2048]⟩
abbrev S8x2048x8 : Shape := ⟨3, ![8, 2048, 8]⟩
abbrev S8x1x2048 : Shape := ⟨3, ![8, 1, 2048]⟩
abbrev S8x2048x8x4x256 : Shape := ⟨5, ![8, 2048, 8, 4, 256]⟩
abbrev S8x8x4x2048x256 : Shape := ⟨5, ![8, 8, 4, 2048, 256]⟩
abbrev S64x8192x256 : Shape := ⟨3, ![64, 8192, 256]⟩
abbrev S8x2048x8x256 : Shape := ⟨4, ![8, 2048, 8, 256]⟩
abbrev S8x8x2048x256 : Shape := ⟨4, ![8, 8, 2048, 256]⟩
abbrev S64x2048x256 : Shape := ⟨3, ![64, 2048, 256]⟩
abbrev S8x2048x8x4 : Shape := ⟨4, ![8, 2048, 8, 4]⟩
abbrev S8x8x4x2048 : Shape := ⟨4, ![8, 8, 4, 2048]⟩
abbrev S64x8192 : Shape := ⟨2, ![64, 8192]⟩
abbrev S8x8x2048 : Shape := ⟨3, ![8, 8, 2048]⟩
abbrev S64x2048 : Shape := ⟨2, ![64, 2048]⟩
abbrev S64x8192x2048 : Shape := ⟨3, ![64, 8192, 2048]⟩
abbrev S64x8192x1 : Shape := ⟨3, ![64, 8192, 1]⟩
abbrev S64x1x2048 : Shape := ⟨3, ![64, 1, 2048]⟩
abbrev S64x4x2048x2048 : Shape := ⟨4, ![64, 4, 2048, 2048]⟩
abbrev S64x4x2048 : Shape := ⟨3, ![64, 4, 2048]⟩
abbrev S64x4x2048x1 : Shape := ⟨4, ![64, 4, 2048, 1]⟩
abbrev S64x1x1x2048 : Shape := ⟨4, ![64, 1, 1, 2048]⟩
abbrev S8x2048 : Shape := ⟨2, ![8, 2048]⟩
abbrev S8x2048x1 : Shape := ⟨3, ![8, 2048, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x8192, .fp8e4m3⟩
  | .hbm, ⟨1, _⟩ => ⟨S8x2048x32, .f32⟩
  | .hbm, ⟨2, _⟩ => ⟨S8x2048x2048, .fp8e4m3⟩
  | .hbm, ⟨3, _⟩ => ⟨S8x2048x8, .f32⟩
  | .hbm, ⟨4, _⟩ => ⟨S8x2048x2048, .fp8e4m3⟩
  | .hbm, ⟨5, _⟩ => ⟨S8x2048x8, .f32⟩
  | .hbm, ⟨6, _⟩ => ⟨S8x2048x8192, .fp8e4m3⟩
  | .hbm, ⟨7, _⟩ => ⟨S8x1x2048, .f32⟩
  | .local _ .vmem, ⟨0, _⟩ => ⟨S8x2048x8192, .fp8e4m3⟩
  | .local _ .vmem, ⟨1, _⟩ => ⟨S8x2048x32, .f32⟩
  | .local _ .vmem, ⟨2, _⟩ => ⟨S8x2048x2048, .fp8e4m3⟩
  | .local _ .vmem, ⟨3, _⟩ => ⟨S8x2048x8, .f32⟩
  | .local _ .vmem, ⟨4, _⟩ => ⟨S8x2048x2048, .fp8e4m3⟩
  | .local _ .vmem, ⟨5, _⟩ => ⟨S8x2048x8, .f32⟩
  | .local _ .vmem, ⟨6, _⟩ => ⟨S8x2048x8192, .fp8e4m3⟩
  | .local _ .vmem, ⟨7, _⟩ => ⟨S8x1x2048, .f32⟩
  | _, _ => ⟨S8x2048x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x2048x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.H.Vals.lean ====
/-
  What one step of the attention kernel computes, as pure functions of the vectors it loads, written once for every
  number of query rows seen before: a query block that sees `hd` earlier keys works on `hd + 256` keys. The functions are
  the kernel's own operations in the kernel's own order; nothing here is a closed form yet.
-/
module

public import Idealize.ShloMosaic.Lib.ShapeFacts
public import Idealize.ShloMosaic.PureOps
public import Idealize.ShloMosaic.Lib.Scf

@[expose] public section

set_option maxRecDepth 16384

noncomputable section

namespace Cert.Proof.H

open Idealize.ShloMosaic

variable {F : FTy → Type} [FloatOps F]

/-- Shapes of rank one, two and three by their extents. -/
abbrev Sh1 (a : Nat) : Shape := ⟨1, ![a]⟩
abbrev Sh2 (a b : Nat) : Shape := ⟨2, ![a, b]⟩
abbrev Sh3 (a b c : Nat) : Shape := ⟨3, ![a, b, c]⟩

/-! ### Shape facts at any number of keys -/

theorem casts_drop (n m : Nat) : (Sh3 1 n m).ShapeCasts (Sh2 n m) := by
  simp [Shape.ShapeCasts, Shape.numel_rank2, Shape.numel_rank3]

theorem casts_add (n m : Nat) : (Sh2 n m).ShapeCasts (Sh3 1 n m) := by
  simp [Shape.ShapeCasts, Shape.numel_rank2, Shape.numel_rank3]

theorem casts_row (n : Nat) : (Sh1 n).ShapeCasts (Sh2 1 n) := by
  simp [Shape.ShapeCasts, Shape.numel_rank2, Shape.numel_rank1]

theorem broadcasts_row (n m : Nat) : (Sh2 1 m).Broadcasts (Sh2 n m) :=
  ⟨Nat.le_refl 2, fun x => by fin_cases x <;> first | exact .inl rfl | exact .inr fun _ => rfl⟩

theorem broadcasts_col (n m : Nat) : (Sh2 n 1).Broadcasts (Sh2 n m) :=
  ⟨Nat.le_refl 2, fun x => by fin_cases x <;> first | exact .inl rfl | exact .inr fun _ => rfl⟩

theorem slices2 {n m a b i j : Nat} (h₁ : i + a ≤ n) (h₂ : j + b ≤ m) : (Sh2 n m).Slices ![i, j] (Sh2 a b) :=
  ⟨rfl, fun x => by fin_cases x; exacts [h₁, h₂]⟩

theorem reduces_rows (n m : Nat) : (Sh2 n m).Reduces [0] (Sh1 m) :=
  ⟨rfl, Nat.one_pos, fun b => by fin_cases b; rfl⟩

theorem concatenates_rows (a b m : Nat) : Shape.Concatenates [Sh2 a m, Sh2 b m] (Sh2 (a + b) m) 0 := by
  refine ⟨Nat.le_refl 2, ?_, rfl⟩
  intro s hs
  simp only [List.mem_cons, List.mem_nil_iff, or_false] at hs
  rcases hs with rfl | rfl <;> exact ⟨rfl, fun b hb => by fin_cases b <;> first | rfl | exact absurd rfl hb⟩

theorem concatenates_strips (n : Nat) :
    Shape.Concatenates [Sh2 n 128, Sh2 n 128, Sh2 n 128, Sh2 n 128] (Sh2 n 512) 1 := by
  refine ⟨by simp, ?_, rfl⟩
  intro s hs
  simp only [List.mem_cons, List.mem_nil_iff, or_false] at hs
  rcases hs with rfl | rfl | rfl | rfl <;>
    exact ⟨rfl, fun b hb => by fin_cases b <;> first | rfl | exact absurd rfl hb⟩

theorem iota_0 (n m : Nat) : (Sh2 n m).Iotas .tc 32 [0] :=
  ⟨by simp, fun _ => ⟨.inr rfl, Nat.le_refl 2⟩, fun h => absurd rfl h⟩

theorem iota_1 (n m : Nat) : (Sh2 n m).Iotas .tc 32 [1] :=
  ⟨by simp, fun _ => ⟨.inr rfl, Nat.le_refl 2⟩, fun h => absurd rfl h⟩

/-! ### Staging one key block -/

/-- The query scales with the softmax constant `κ`, one row of 256 per head. -/
def stagedA (κ : F .f32) (xs : FVec F (Sh3 1 256 32) .f32) : FVec F (Sh3 32 1 256) .f32 :=
  shapeCast (Sh3 32 1 256) (shapeCast (Sh3 32 1 256)
    (mulf (transpose (Sh2 32 256) [1, 0] (shapeCast (Sh2 256 32) xs (casts_drop 256 32)) (Shape.transposes_10 256 32))
      (broadcast (Sh2 32 256) κ)) (by decide)) (by decide)

/-- The keys of one head, as they are. -/
def stagedK (k : FVec F (Sh3 1 256 256) .fp8e4m3) : FVec F (Sh3 1 256 256) .fp8e4m3 :=
  shapeCast (Sh3 1 256 256) (shapeCast (Sh2 256 256) k (casts_drop 256 256)) (casts_add 256 256)

/-- The key scales of one head, repeated over 128 lanes. -/
def stagedKs (ks : FVec F (Sh3 1 256 1) .f32) : FVec F (Sh3 1 256 128) .f32 :=
  shapeCast (Sh3 1 256 128) (broadcastTo (Sh2 256 128)
    (shapeCast (Sh2 256 1) (shapeCast (Sh2 256 1) ks (casts_drop 256 1)) (by decide)) (broadcasts_col 256 128)) (casts_add 256 128)

/-- The scaled values of one head, transposed. -/
def stagedV (v : FVec F (Sh3 1 256 256) .fp8e4m3) (vs : FVec F (Sh3 1 256 1) .f32) : FVec F (Sh3 1 256 256) .bf16 :=
  shapeCast (Sh3 1 256 256) (transpose (Sh2 256 256) [1, 0]
    (mulf (extf .bf16 (shapeCast (Sh2 256 256) v (casts_drop 256 256)) (by decide))
      (broadcastTo (Sh2 256 256) (truncf .bf16 (shapeCast (Sh2 256 1) vs (casts_drop 256 1)) (by decide)) (broadcasts_col 256 256)))
    (Shape.transposes_10 256 256)) (casts_add 256 256)

/-! ### One unit: two query heads over one key head -/

/-- The two heads' queries, one under the other. -/
def queries (x0 x1 : FVec F (Sh3 1 256 256) .fp8e4m3) : FVec F (Sh2 512 256) .fp8e4m3 :=
  concatenate (Sh2 512 256) 0 [⟨Sh2 256 256, shapeCast (Sh2 256 256) x0 (casts_drop 256 256)⟩,
    ⟨Sh2 256 256, shapeCast (Sh2 256 256) x1 (casts_drop 256 256)⟩] (concatenates_rows 256 256 256)

/-- The raw scores, keys down the rows. -/
def scores (n : Nat) (k : FVec F (Sh3 1 n 256) .fp8e4m3) (x0 x1 : FVec F (Sh3 1 256 256) .fp8e4m3) :
    FVec F (Sh2 n 512) .f32 :=
  matmul (DotDims.transposedRhs n 256 512) none (shapeCast (Sh2 n 256) k (casts_drop n 256)) (queries x0 x1)
    (constant (Sh2 n 512) .f32 0x00000000#32)

/-- The causal mask of a diagonal 128 × 128 tile: key at most query. -/
def tri : IVec (Sh2 128 128) 1 :=
  cmpi .sle (iota .tc (Sh2 128 128) 32 [0] (iota_0 128 128)) (iota .tc (Sh2 128 128) 32 [1] (iota_1 128 128))

/-- The scaled scores of one strip of 128 queries at lane `l`, over the first `vis` keys. -/
def scaled (n vis l : Nat) (hv : vis ≤ n) (hl : l + 128 ≤ 512) (st : FVec F (Sh2 n 512) .f32)
    (a : FVec F (Sh3 1 1 128) .f32) (ks : FVec F (Sh3 1 vis 128) .f32) : FVec F (Sh2 vis 128) .f32 :=
  mulf (mulf (extractStridedSlice (Sh2 vis 128) ![0, l] st (slices2 (by omega) hl))
      (broadcastTo (Sh2 vis 128) (shapeCast (Sh2 1 128) a (casts_drop 1 128)) (broadcasts_row vis 128)))
    (shapeCast (Sh2 vis 128) ks (casts_drop vis 128))

/-- The last 128 of `hd + 128` keys masked causally; nothing to join when there are no earlier keys. -/
def masked : (hd : Nat) → FVec F (Sh2 (hd + 128) 128) .f32 → FVec F (Sh2 (hd + 128) 128) .f32
  | 0, z => (select tri (show FVec F (Sh2 128 128) .f32 from z)
      (broadcast (Sh2 128 128) (Scalar.ofBits .f32 0xFF800000#32 : F .f32)) : FVec F (Sh2 128 128) .f32)
  | h + 1, z => concatenate (Sh2 (h + 1 + 128) 128) 0
      [⟨Sh2 (h + 1) 128, extractStridedSlice (Sh2 (h + 1) 128) ![0, 0] z (slices2 (by omega) (by omega))⟩,
       ⟨Sh2 128 128, select tri (extractStridedSlice (Sh2 128 128) ![h + 1, 0] z (slices2 (by omega) (by omega)))
         (broadcast (Sh2 128 128) (Scalar.ofBits .f32 0xFF800000#32 : F .f32))⟩]
      (concatenates_rows (h + 1) 128 128)

/-- Softmax down the columns, rounded to bf16. -/
def soft (vis : Nat) (z : FVec F (Sh2 vis 128) .f32) : FVec F (Sh2 vis 128) .bf16 :=
  let e : FVec F (Sh2 vis 128) .f32 := exp2 (subf z (broadcastTo (Sh2 vis 128) (shapeCast (Sh2 1 128)
    (multiReduction .maximumf [0] (Sh1 128) z 0xFF800000#32 (reduces_rows vis 128) (.inl rfl) rfl) (casts_row 128))
    (broadcasts_row vis 128)))
  truncf .bf16 (mulf e (broadcastTo (Sh2 vis 128) (divf (broadcast (Sh2 1 128) (Scalar.ofBits .f32 0x3F800000#32 : F .f32))
    (shapeCast (Sh2 1 128) (multiReduction .add [0] (Sh1 128) e 0x00000000#32 (reduces_rows vis 128) (.inl rfl) rfl) (casts_row 128)))
    (broadcasts_row vis 128))) (by decide)

/-- A strip over all `hd + 256` keys but the last 128, padded with zeros. -/
def padded (hd : Nat) (p : FVec F (Sh2 (hd + 128) 128) .bf16) : FVec F (Sh2 (hd + 128 + 128) 128) .bf16 :=
  concatenate (Sh2 (hd + 128 + 128) 128) 0 [⟨Sh2 (hd + 128) 128, p⟩,
    ⟨Sh2 128 128, broadcast (Sh2 128 128) (Scalar.ofBits .bf16 0x0000#16 : F .bf16)⟩] (concatenates_rows (hd + 128) 128 128)

/-- The probabilities of a strip whose last 128 keys are hidden. -/
def stripE (hd l : Nat) (hl : l + 128 ≤ 512) (st : FVec F (Sh2 (hd + 128 + 128) 512) .f32)
    (a : FVec F (Sh3 1 1 128) .f32) (ks : FVec F (Sh3 1 (hd + 128) 128) .f32) : FVec F (Sh2 (hd + 128 + 128) 128) .bf16 :=
  padded hd (soft (hd + 128) (masked hd (scaled (hd + 128 + 128) (hd + 128) l (by omega) hl st a ks)))

/-- The probabilities of a strip that sees all keys, its last 128 causally. -/
def stripO (hd l : Nat) (hl : l + 128 ≤ 512) (st : FVec F (Sh2 (hd + 128 + 128) 512) .f32)
    (a : FVec F (Sh3 1 1 128) .f32) (ks : FVec F (Sh3 1 (hd + 128 + 128) 128) .f32) : FVec F (Sh2 (hd + 128 + 128) 128) .bf16 :=
  soft (hd + 128 + 128) (masked (hd + 128) (scaled (hd + 128 + 128) (hd + 128 + 128) l (by omega) hl st a ks))

/-- The outputs of a unit, transposed: 256 features by the 512 queries of its two heads. -/
def outT (n : Nat) (vt : FVec F (Sh3 1 256 n) .bf16) (s0 s1 s2 s3 : FVec F (Sh2 n 128) .bf16) : FVec F (Sh2 256 512) .f32 :=
  matmul (DotDims.plain 256 n 512) none (shapeCast (Sh2 256 n) vt (casts_drop 256 n))
    (concatenate (Sh2 n 512) 1 [⟨Sh2 n 128, s0⟩, ⟨Sh2 n 128, s1⟩, ⟨Sh2 n 128, s2⟩, ⟨Sh2 n 128, s3⟩] (concatenates_strips n))
    (constant (Sh2 256 512) .f32 0x00000000#32)

/-- One head's half of the outputs. -/
def outHalf (l : Nat) (hl : l + 256 ≤ 512) (ot : FVec F (Sh2 256 512) .f32) : FVec F (Sh3 1 256 256) .f32 :=
  shapeCast (Sh3 1 256 256) (extractStridedSlice (Sh2 256 256) ![0, l] ot (slices2 (by omega) hl)) (casts_add 256 256)

/-- The running maximum of magnitudes, in 8 rows, with one unit's outputs taken in. -/
def maxStep (ot : FVec F (Sh2 256 512) .f32) (am : FVec F (Sh2 8 256) .f32) : FVec F (Sh2 8 256) .f32 :=
  let g : FVec F (Sh2 8 512) .f32 := multiReduction .maximumf [0] (Sh2 8 512)
    (shapeCast (Sh3 32 8 512) (absf ot) (by decide)) 0xFF800000#32 (by decide) (.inl rfl) rfl
  shapeCast (Sh2 8 256) (maximumf am (maximumf
    (extractStridedSlice (Sh2 8 256) ![0, 0] g (slices2 (by omega) (by omega)))
    (extractStridedSlice (Sh2 8 256) ![0, 256] g (slices2 (by omega) (by omega))))) (by decide)

/-- The zeros the running maximum starts from. -/
def maxInit : FVec F (Sh2 8 256) .f32 :=
  shapeCast (Sh2 8 256) (broadcast (Sh2 8 256) (Scalar.ofBits .f32 0x00000000#32 : F .f32)) (by decide)

/-! ### The output scale -/

/-- The power of two with exponent `e`, by its bits. -/
def pow2 (e : IVec (Sh2 1 256) 32) : FVec F (Sh2 1 256) .f32 :=
  bitcastToFloat .f32 (shli (addi e (broadcast (Sh2 1 256) 127#32)) (broadcast (Sh2 1 256) 23#32))

/-- The scale wanted: largest magnitude over the largest code. -/
def wanted (am : FVec F (Sh2 8 256) .f32) : FVec F (Sh2 1 256) .f32 :=
  mulf (shapeCast (Sh2 1 256) (multiReduction .maximumf [0] (Sh1 256) am 0xFF800000#32 (reduces_rows 8 256) (.inl rfl) rfl)
    (casts_row 256)) (broadcast (Sh2 1 256) (Scalar.ofBits .f32 0x3B124925#32 : F .f32))

/-- The biased exponent of a non-negative `r`: how many of the powers of two it reaches. -/
def biased (r : FVec F (Sh2 1 256) .f32) : IVec (Sh2 1 256) 32 :=
  fptosi 32 (select (cmpf .olt r (broadcast (Sh2 1 256) (Scalar.ofBits .f32 0x7F000000#32 : F .f32)))
    (shapeCast (Sh2 1 256) (multiReduction .add [0] (Sh1 256)
      (select (cmpf .ole (bitcastToFloat .f32 (shli (addi (subi
          (addi (iota .tc (Sh2 254 256) 32 [0] (iota_0 254 256)) (broadcast (Sh2 254 256) 1#32))
          (broadcast (Sh2 254 256) 127#32)) (broadcast (Sh2 254 256) 127#32)) (broadcast (Sh2 254 256) 23#32)) : FVec F (Sh2 254 256) .f32)
          (broadcastTo (Sh2 254 256) r (broadcasts_row 254 256)))
        (broadcast (Sh2 254 256) (Scalar.ofBits .f32 0x3F800000#32 : F .f32))
        (broadcast (Sh2 254 256) (Scalar.ofBits .f32 0x00000000#32 : F .f32)))
      0x00000000#32 (reduces_rows 254 256) (.inl rfl) rfl) (casts_row 256))
    (broadcast (Sh2 1 256) (Scalar.ofBits .f32 0x437F0000#32 : F .f32)))

/-- The exponent of the output scale: nothing outside the normal range. -/
def expo (r : FVec F (Sh2 1 256) .f32) : IVec (Sh2 1 256) 32 :=
  select (ori (cmpi .eq (biased r) (broadcast (Sh2 1 256) 0#32)) (cmpi .eq (biased r) (broadcast (Sh2 1 256) 255#32)))
    (broadcast (Sh2 1 256) 0#32) (subi (biased r) (broadcast (Sh2 1 256) 126#32))

/-- The row of scales written out. -/
def scaleRow (e : IVec (Sh2 1 256) 32) : FVec F (Sh3 1 1 256) .f32 :=
  shapeCast (Sh3 1 1 256) (pow2 e : FVec F (Sh2 1 256) .f32) (casts_add 1 256)

/-- One head's outputs divided by the scale, clipped, transposed and rounded to fp8. -/
def codes (e : IVec (Sh2 1 256) 32) (o : FVec F (Sh3 1 256 256) .f32) : FVec F (Sh3 1 256 256) .fp8e4m3 :=
  shapeCast (Sh3 1 256 256) (truncf .fp8e4m3 (transpose (Sh2 256 256) [1, 0]
    (minimumf (broadcast (Sh2 256 256) (Scalar.ofBits .f32 0x43E00000#32 : F .f32))
      (maximumf (broadcast (Sh2 256 256) (Scalar.ofBits .f32 0xC3E00000#32 : F .f32))
        (mulf (shapeCast (Sh2 256 256) o (casts_drop 256 256))
          (broadcastTo (Sh2 256 256) (pow2 (subi (broadcast (Sh2 1 256) 0#32) e)) (broadcasts_row 256 256)))))
    (Shape.transposes_10 256 256)) (by decide)) (casts_add 256 256)

end Cert.Proof.H

end
-- ==== Proof.H.Hoare.lean ====
/-
  A small logic for kernel bodies that only load from and store to whole memrefs: the contents of all memrefs
  together are one state, a memref is a "cell" of that state (how to read its contents, how to replace them), and
  `Triple p S Q` says that the program `p`, run from state `S`, ends with a result and a state that satisfy `Q`.
  There is one rule per effect; a body is then verified without mentioning ownership at all.
-/
module

public import Idealize.ShloMosaic.Lib.Pipeline.Frame
public import Idealize.ShloMosaic.Lib.Scf
public import Idealize.ShloMosaic.Lib.Pipeline.FrameBody
public import Idealize.ShloMosaic.Lib.Ring
public import Idealize.ShloMosaic.Lib.Tactic

@[expose] public section

noncomputable section

namespace Cert.Proof.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}

/-- The array `X` with the rectangle `r` overwritten by `w`. -/
def put {s : Shape} {β : Type} (r : Rect s) (w : r.shape.Idx → β) (X : s.Idx → β) : s.Idx → β :=
  open Classical in fun y => if h : ∃ x, r.emb x = y then w h.choose else X y

theorem put_emb {s : Shape} {β : Type} (r : Rect s) (w : r.shape.Idx → β) (X : s.Idx → β) (x : r.shape.Idx) :
    put r w X (r.emb x) = w x := by
  have h : ∃ x', r.emb x' = r.emb x := ⟨x, rfl⟩
  unfold put
  rw [dif_pos h]
  exact congrArg w (r.emb.injective h.choose_spec)

theorem put_of_not {s : Shape} {β : Type} (r : Rect s) (w : r.shape.Idx → β) (X : s.Idx → β) (y : s.Idx)
    (h : ¬ ∃ x, r.emb x = y) : put r w X y = X y := dif_neg h

/-- What a view reads after a store through a rectangle of it. -/
theorem read_write_eq {κ : Kind} {sp : Space} {s : Shape} {e : EltTy} (v : View sig κ sp s e) (r : Rect s)
    (f : v.ty.Contents Val) (w : r.shape.Idx → Val e) :
    v.read Val ((v.slice r).write Val f w Finset.univ) = put r w (v.read Val f) := by
  funext y
  by_cases h : ∃ x, r.emb x = y
  · obtain ⟨x, rfl⟩ := h
    rw [put_emb]
    exact View.read_slice_write_emb r f w (Finset.mem_univ x)
  · rw [put_of_not _ _ _ _ h]
    refine View.read_slice_write_of_not_mem r f w _ ?_
    simpa using h

variable {St : Type}

/-- A memref as a cell of the state: owning the state is owning the memref at its contents `get S`, and giving it
    back at any contents `X` makes the state `set S X`. -/
structure Cell (c : Thread nD τ) (Own : St → sProp (MT nD τ sig Ix Val Name U Lvl)) {s : Shape} {e : EltTy}
    (m : Memref sig c.2.kind .vmem s e) where
  get : St → s.Idx → Val e
  set : St → (s.Idx → Val e) → St
  split : ∀ S, Own S ⊢ iprop(owns c m fullShare (get S) ∗ (∀ X, owns c m fullShare X -∗ Own (set S X)))
  set_get : ∀ S, set S (get S) = S

section Cells
variable (c : Thread nD τ) {s : Shape} {e : EltTy} (m : Memref sig c.2.kind .vmem s e)

/-- The first conjunct of the state is a cell. -/
def Cell.here (get : St → s.Idx → Val e) (set : St → (s.Idx → Val e) → St) (R : St → sProp (MT nD τ sig Ix Val Name U Lvl))
    (h₁ : ∀ S X, get (set S X) = X) (h₂ : ∀ S X, R (set S X) = R S) (h₃ : ∀ S, set S (get S) = S) :
    Cell c (fun S => iprop(owns c m fullShare (get S) ∗ R S)) m where
  get := get
  set := set
  set_get := h₃
  split := fun S => by
    iintro ⟨H, HR⟩
    isplitl [H]
    · iexact H
    · iintro %X HX
      rw [h₁, h₂]
      isplitl [HX] <;> iassumption

/-- A cell of the remaining conjuncts is a cell. -/
def Cell.there {R : St → sProp (MT nD τ sig Ix Val Name U Lvl)} (C : Cell c R m) (P : St → sProp (MT nD τ sig Ix Val Name U Lvl))
    (h : ∀ S X, P (C.set S X) = P S) : Cell c (fun S => iprop(P S ∗ R S)) m where
  get := C.get
  set := C.set
  set_get := C.set_get
  split := fun S => by
    iintro ⟨HP, HR⟩
    ihave HS := (C.split S) $$ [HR]
    · iexact HR
    icases HS with ⟨H, HK⟩
    isplitl [H]
    · iexact H
    · iintro %X HX
      rw [h]
      isplitl [HP]
      · iexact HP
      · iapply HK; iexact HX

end Cells

section Triples
variable [Preorder Lvl] (defs : Defs nD τ sig Val Λ) (𝒱 : Variants) (c : Thread nD τ) (bd : Option 𝒱.V)
  (E : Set Name) (Own : St → sProp (MT nD τ sig Ix Val Name U Lvl))

/-- From state `S` the program runs without fault and ends with a result `a` and a state `S'` such that `Q a S'`. -/
def Triple {α : Type} (p : Prog (TpuEff nD τ sig Val Λ c.2) α) (S : St) (Q : α → St → Prop) : Prop :=
  ∀ K : α → sProp (MT nD τ sig Ix Val Name U Lvl), (iprop(Own S ∗ (∀ a : α, ∀ S' : St, ⌜Q a S'⌝ -∗ Own S' -∗ K a)) : sProp (MT nD τ sig Ix Val Name U Lvl)) ⊢ (wp frame (wpE defs 𝒱 c bd) E p K : sProp (MT nD τ sig Ix Val Name U Lvl))

variable {defs 𝒱 c bd E Own} {α β : Type}

theorem Triple.ret {a : α} {S : St} {Q : α → St → Prop} (h : Q a S) : Triple defs 𝒱 c bd E Own (.ret a) S Q := by
  intro K
  iintro ⟨HO, HK⟩
  rw [wp_ret]
  imodintro
  iapply HK $$ %a %S [] HO
  ipureintro; exact h

theorem Triple.bind {p : Prog (TpuEff nD τ sig Val Λ c.2) α} {k : α → Prog (TpuEff nD τ sig Val Λ c.2) β} {S : St}
    {R : α → St → Prop} {Q : β → St → Prop} (hp : Triple defs 𝒱 c bd E Own p S R)
    (hk : ∀ a S', R a S' → Triple defs 𝒱 c bd E Own (k a) S' Q) :
    Triple defs 𝒱 c bd E Own (p.bind k) S Q := by
  intro K
  change _ ⊢ wp frame (wpE defs 𝒱 c bd) E (p >>= k) K
  rw [wp_bind]
  iintro ⟨HO, HK⟩
  iapply (hp _)
  isplitl [HO]
  · iexact HO
  · iintro %a %S' %hR HO'
    iapply (hk a S' hR K)
    isplitl [HO'] <;> iassumption

theorem Triple.mono {p : Prog (TpuEff nD τ sig Val Λ c.2) α} {S : St} {R Q : α → St → Prop}
    (hp : Triple defs 𝒱 c bd E Own p S R) (h : ∀ a S', R a S' → Q a S') : Triple defs 𝒱 c bd E Own p S Q := by
  intro K
  iintro ⟨HO, HK⟩
  iapply (hp K)
  isplitl [HO]
  · iexact HO
  · iintro %a %S' %hR HO'
    iapply HK $$ %a %S' [] HO'
    ipureintro; exact h a S' hR

theorem Triple.load {s : Shape} {e : EltTy} {m : Memref sig c.2.kind .vmem s e} (C : Cell c Own m)
    {r : LoadRect s} {hl : m.view.LoadsAt r} {k : (r.shape.Idx → Val e) → Prog (TpuEff nD τ sig Val Λ c.2) α}
    {S : St} {Q : α → St → Prop}
    (h : Triple defs 𝒱 c bd E Own (k (fun x => C.get S (r.idx x))) S Q) :
    Triple defs 𝒱 c bd E Own (.op (.load m r hl) k) S Q := by
  intro K
  iintro ⟨HO, HK⟩
  ihave HS := (C.split S) $$ [HO]
  · iexact HO
  icases HS with ⟨H, HR⟩
  unfold owns
  icases H with ⟨%f, %hf, Hf⟩
  iapply (wp_load 𝒱 c bd E (View.setOn_subset_set _ _)) $$ Hf
  iintro Hf
  have e : m.view.readAt Val r f = fun x => C.get S (r.idx x) := by rw [← hf]; rfl
  rw [e]
  iapply (h K)
  isplitl [Hf HR]
  · ihave H' := HR $$ %(C.get S) [Hf]
    · iexists f
      isplitr
      · ipureintro; exact hf
      · iexact Hf
    rw [C.set_get]
    iexact H'
  · iexact HK

theorem Triple.store {s : Shape} {e : EltTy} {m : Memref sig c.2.kind .vmem s e} (C : Cell c Own m)
    {r : Rect s} {w : r.shape.Idx → Val e} {hx : (m.access r).Stores Finset.univ}
    {hm : Finset.univ = Finset.univ ∨ ∀ a, r.stride a = 1}
    {k : PUnit → Prog (TpuEff nD τ sig Val Λ c.2) α} {S : St} {Q : α → St → Prop}
    (h : Triple defs 𝒱 c bd E Own (k ⟨⟩) (C.set S (put r w (C.get S))) Q) :
    Triple defs 𝒱 c bd E Own (.op (.store m r w Finset.univ hx hm) k) S Q := by
  intro K
  iintro ⟨HO, HK⟩
  ihave HS := (C.split S) $$ [HO]
  · iexact HO
  icases HS with ⟨H, HR⟩
  unfold owns
  icases H with ⟨%f, %hf, Hf⟩
  iapply (wp_store (m := m) (r := r) 𝒱 c bd E (S := m.view.set) (View.set_slice_subset m.view r)) $$ Hf
  iintro Hf
  iapply (h K)
  isplitl [Hf HR]
  · iapply HR
    iexists _
    isplitr
    · ipureintro; exact (read_write_eq m.view r f w).trans (by rw [hf])
    · iexact Hf
  · iexact HK

/-- A counted loop, by an invariant on the state. -/
theorem Triple.for {w : Nat} {σ : Type} {lb ub st : BitVec w} {hok : Scf.OK lb ub st} {init : σ}
    {body : Fin (Scf.trips lb ub st) → σ → Prog (TpuEff nD τ sig Val Λ c.2) σ} {S : St}
    (I : Nat → σ → St → Prop) (h₀ : I 0 init S)
    (hb : ∀ (k : Fin (Scf.trips lb ub st)) (acc : σ) (S' : St), I k acc S' →
      Triple defs 𝒱 c bd E Own (body k acc) S' (fun a S'' => I (k.val + 1) a S'')) :
    Triple defs 𝒱 c bd E Own (Scf.for lb ub st hok init body) S (I (Scf.trips lb ub st)) := by
  intro K
  iintro ⟨HO, HK⟩
  iapply (Scf.wp_for frame (wpE defs 𝒱 c bd) E lb ub st hok init body
    (fun n acc => iprop(∃ S', ⌜I n acc S'⌝ ∗ Own S')) (fun k acc => by
      iintro ⟨%S', %hI, HO⟩
      iapply (hb k acc S' hI _)
      isplitl [HO]
      · iexact HO
      · iintro %a %S'' %hI' HO
        iexists S''
        isplitr
        · ipureintro; exact hI'
        · iexact HO))
  isplitl [HO]
  · iexists S
    isplitr
    · ipureintro; exact h₀
    · iexact HO
  · iintro %acc ⟨%S', %hI, HO⟩
    iapply HK $$ %acc %S' [] HO
    ipureintro; exact hI

end Triples

end Cert.Proof.H

end
-- ==== Proof.H.Prog.lean ====
/-
  The kernel's body written once for every query block: the stores and loads of one branch with the number of
  earlier keys as a parameter. A later module shows each printed branch to be this program at its own number.
-/
module

public import proofs.«01_k».proof.Proof.H.Vals
public import proofs.«01_k».proof.Proof.H.Hoare

@[expose] public section

set_option maxRecDepth 16384

noncomputable section

namespace Cert.Proof.H

open Idealize.ShloMosaic Idealize.SL.Sem

variable {F : FTy → Type} [FloatOps F]

/-- The memrefs of the body: the six inputs' blocks, the two results' blocks and the scratch arrays it uses. -/
structure Mems (sig : RefSig) where
  x : Memref sig .tc .vmem (Sh3 1 256 8192) .fp8e4m3
  xs : Memref sig .tc .vmem (Sh3 1 256 32) .f32
  k : Memref sig .tc .vmem (Sh3 1 256 2048) .fp8e4m3
  ks : Memref sig .tc .vmem (Sh3 1 256 8) .f32
  v : Memref sig .tc .vmem (Sh3 1 256 2048) .fp8e4m3
  vs : Memref sig .tc .vmem (Sh3 1 256 8) .f32
  oc : Memref sig .tc .vmem (Sh3 1 256 8192) .fp8e4m3
  os : Memref sig .tc .vmem (Sh3 1 1 256) .f32
  kAll : Memref sig .tc .vmem (Sh3 8 2048 256) .fp8e4m3
  ksAll : Memref sig .tc .vmem (Sh3 8 2048 128) .f32
  vtAll : Memref sig .tc .vmem (Sh3 8 256 2048) .bf16
  a : Memref sig .tc .vmem (Sh3 32 1 256) .f32
  o : Memref sig .tc .vmem (Sh3 32 256 256) .f32
  am : Memref sig .tc .vmem (Sh2 8 256) .f32
  wkAll : kAll.IsWhole
  wvtAll : vtAll.IsWhole
  woc : oc.IsWhole

/-! ### Where the accesses lie -/

/-- The loop over the 16 units, and the one over the 32 heads. -/
@[reducible] def uLoop : Scf.Loop 32 := ⟨0#32, Scalar.addi 0#32 16#32, 1#32⟩
@[reducible] def eLoop : Scf.Loop 32 := ⟨0#32, Scalar.addi 0#32 32#32, 1#32⟩

/-- A unit's number as the word the loop computes. -/
def uWord (u : Nat) : BitVec 32 := Scf.iv 0#32 1#32 u

/-- Columns of head `2 u + p`'s queries. -/
def xOff (u : Nat) (p : BitVec 32) : Fin 3 → Nat :=
  ![0, 0, (Scalar.indexCast (Scalar.muli (Scalar.addi (Scalar.muli (uWord u) 2#32) p) 256#32)).toNat]

/-- Row of head `2 u + p`, from lane `l`. -/
def hOff (u : Nat) (p : BitVec 32) (l : Nat) : Fin 3 → Nat :=
  ![(Scalar.indexCast (Scalar.addi (Scalar.muli (uWord u) 2#32) p)).toNat, 0, l]

/-- The key head of unit `u`: its number halved, rounding down. -/
def kvWord (u : Nat) : BitVec 32 :=
  Scalar.select (Scalar.andi (Scalar.cmpi .ne
      (Scalar.subi (Scalar.extui (Scalar.cmpi .sgt (uWord u) 0#32) : BitVec 32) (Scalar.extui (Scalar.cmpi .slt (uWord u) 0#32)))
      (Scalar.subi (Scalar.extui (Scalar.cmpi .sgt (2#32 : BitVec 32) 0#32) : BitVec 32) (Scalar.extui (Scalar.cmpi .slt (2#32 : BitVec 32) 0#32))))
      (Scalar.cmpi .ne (Scalar.remsi (uWord u) 2#32) 0#32))
    (Scalar.subi (Scalar.divsi (uWord u) 2#32) 1#32) (Scalar.divsi (uWord u) 2#32)

/-- Rows of the key head of unit `u`. -/
def kvOff (u : Nat) : Fin 3 → Nat := ![(Scalar.indexCast (kvWord u)).toNat, 0, 0]

/-- Row of head `h`, and its columns in the result block. -/
def oOff (h : Nat) : Fin 3 → Nat := ![(Scalar.indexCast (uWord h)).toNat, 0, 0]
def ocOff (h : Nat) : Fin 3 → Nat := ![0, 0, (Scalar.indexCast (Scalar.muli (uWord h) 256#32)).toNat]

theorem xOff_eq : ∀ u : Fin uLoop.trips, ∀ p : Fin 2,
    xOff u (BitVec.ofNat 32 p.val) = ![0, 0, 512 * u.val + 256 * p.val] := by decide +kernel
theorem hOff_zero : ∀ u : Fin uLoop.trips, ∀ p : Fin 2,
    (Scalar.indexCast (Scalar.addi (Scalar.muli (uWord u) 2#32) (BitVec.ofNat 32 p.val))).toNat = 2 * u.val + p.val := by
  decide +kernel
theorem hOff_eq (u : Fin uLoop.trips) (p : Fin 2) (l : Nat) :
    hOff u (BitVec.ofNat 32 p.val) l = ![2 * u.val + p.val, 0, l] := by
  unfold hOff; rw [hOff_zero]
theorem kvOff_eq : ∀ u : Fin uLoop.trips, kvOff u = ![u.val / 2, 0, 0] := by decide +kernel
theorem oOff_eq : ∀ h : Fin eLoop.trips, oOff h = ![h.val, 0, 0] := by decide +kernel
theorem ocOff_eq : ∀ h : Fin eLoop.trips, ocOff h = ![0, 0, 256 * h.val] := by decide +kernel

theorem uTrips : uLoop.trips = 16 := by decide
theorem eTrips : eLoop.trips = 32 := by decide
theorem uOk : uLoop.OK := by decide
theorem eOk : eLoop.OK := by decide

/-- An offset and a size, coordinate by coordinate inside a shape of rank three. -/
theorem inb3 {s : Fin 3 → Nat} {a b c x y z : Nat} (h₀ : a + x ≤ s 0) (h₁ : b + y ≤ s 1) (h₂ : c + z ≤ s 2) :
    ∀ i, (![a, b, c] : Fin 3 → Nat) i + (![x, y, z] : Fin 3 → Nat) i ≤ s i := fun i => by
  fin_cases i; exacts [h₀, h₁, h₂]

theorem xOff_inb (u : Fin uLoop.trips) (p : Fin 2) :
    ∀ i, xOff u (BitVec.ofNat 32 p.val) i + (Sh3 1 256 256).size i ≤ (Sh3 1 256 8192).size i := by
  have : u.val < 16 := u.isLt
  rw [xOff_eq]; exact inb3 (by decide) (by decide) (show 512 * u.val + 256 * p.val + 256 ≤ 8192 by omega)

theorem aOff_inb (u : Fin uLoop.trips) (p : Fin 2) (l : Nat) (hl : l + 128 ≤ 256) :
    ∀ i, hOff u (BitVec.ofNat 32 p.val) l i + (Sh3 1 1 128).size i ≤ (Sh3 32 1 256).size i := by
  have : u.val < 16 := u.isLt
  rw [hOff_eq]; exact inb3 (show 2 * u.val + p.val + 1 ≤ 32 by omega) (by decide) hl

theorem oOff_inb (u : Fin uLoop.trips) (p : Fin 2) :
    ∀ i, hOff u (BitVec.ofNat 32 p.val) 0 i + (Sh3 1 256 256).size i ≤ (Sh3 32 256 256).size i := by
  have : u.val < 16 := u.isLt
  rw [hOff_eq]; exact inb3 (show 2 * u.val + p.val + 1 ≤ 32 by omega) (by decide) (by decide)

theorem kvOff_inb {y z Y Z : Nat} (hy : y ≤ Y) (hz : z ≤ Z) (u : Fin uLoop.trips) :
    ∀ i, kvOff u i + (Sh3 1 y z).size i ≤ (Sh3 8 Y Z).size i := by
  have : u.val < 16 := u.isLt
  rw [kvOff_eq]; exact inb3 (show u.val / 2 + 1 ≤ 8 by omega) (show 0 + y ≤ Y by omega) (show 0 + z ≤ Z by omega)

theorem eOff_inb (h : Fin eLoop.trips) :
    ∀ i, oOff h i + (Sh3 1 256 256).size i ≤ (Sh3 32 256 256).size i := by
  have : h.val < 32 := h.isLt
  rw [oOff_eq]; exact inb3 (show h.val + 1 ≤ 32 by omega) (by decide) (by decide)

theorem ocOff_inb (h : Fin eLoop.trips) :
    ∀ i, ocOff h i + (Sh3 1 256 256).size i ≤ (Sh3 1 256 8192).size i := by
  have : h.val < 32 := h.isLt
  rw [ocOff_eq]; exact inb3 (by decide) (by decide) (show 256 * h.val + 256 ≤ 8192 by omega)

/-! ### Rectangles -/

/-- One head's rows `row .. row + 256` of a scratch array with rows on axis 1. -/
abbrev rowsRect {z : Nat} (h row : Nat) (hh : h + 1 ≤ 8) (hr : row + 256 ≤ 2048) : Rect (Sh3 8 2048 z) :=
  Rect.unit (s := Sh3 8 2048 z) ![h, row, 0] (Sh3 1 256 z).size (inb3 hh hr (show 0 + z ≤ z by omega))
/-- One head's columns `row .. row + 256` of the transposed values. -/
abbrev colsRect (h row : Nat) (hh : h + 1 ≤ 8) (hr : row + 256 ≤ 2048) : Rect (Sh3 8 256 2048) :=
  Rect.unit (s := Sh3 8 256 2048) ![h, 0, row] (Sh3 1 256 256).size (inb3 hh (by decide) hr)
/-- One head's 256 columns of an input block, and its one scale column. -/
abbrev headRect (h : Nat) (hh : h + 1 ≤ 8) : Rect (Sh3 1 256 2048) :=
  Rect.unit (s := Sh3 1 256 2048) ![0, 0, 256 * h] (Sh3 1 256 256).size
    (inb3 (by decide) (by decide) (show 256 * h + 256 ≤ 2048 by omega))
abbrev headCol (h : Nat) (hh : h + 1 ≤ 8) : Rect (Sh3 1 256 8) :=
  Rect.unit (s := Sh3 1 256 8) ![0, 0, h] (Sh3 1 256 1).size (inb3 (by decide) (by decide) hh)
abbrev xsRect : Rect (Sh3 1 256 32) := Rect.unit (s := Sh3 1 256 32) ![0, 0, 0] (Sh3 1 256 32).size (inb3 (by decide) (by decide) (by decide))
abbrev aRect : Rect (Sh3 32 1 256) := Rect.unit (s := Sh3 32 1 256) ![0, 0, 0] (Sh3 32 1 256).size (inb3 (by decide) (by decide) (by decide))
abbrev amRect : Rect (Sh2 8 256) := Rect.unit (s := Sh2 8 256) ![0, 0] (Sh2 8 256).size (by decide)
abbrev osRect : Rect (Sh3 1 1 256) := Rect.unit (s := Sh3 1 1 256) ![0, 0, 0] (Sh3 1 1 256).size (inb3 (by decide) (by decide) (by decide))
abbrev xRect (u : Fin uLoop.trips) (p : Fin 2) : Rect (Sh3 1 256 8192) :=
  Rect.unit (s := Sh3 1 256 8192) (xOff u (BitVec.ofNat 32 p.val)) (Sh3 1 256 256).size (xOff_inb u p)
abbrev kRect (u : Fin uLoop.trips) (n : Nat) (hn : n ≤ 2048) : Rect (Sh3 8 2048 256) :=
  Rect.unit (s := Sh3 8 2048 256) (kvOff u) (Sh3 1 n 256).size (kvOff_inb hn (Nat.le_refl 256) u)
abbrev ksRect (u : Fin uLoop.trips) (n : Nat) (hn : n ≤ 2048) : Rect (Sh3 8 2048 128) :=
  Rect.unit (s := Sh3 8 2048 128) (kvOff u) (Sh3 1 n 128).size (kvOff_inb hn (Nat.le_refl 128) u)
abbrev vtRect (u : Fin uLoop.trips) (n : Nat) (hn : n ≤ 2048) : Rect (Sh3 8 256 2048) :=
  Rect.unit (s := Sh3 8 256 2048) (kvOff u) (Sh3 1 256 n).size (kvOff_inb (Nat.le_refl 256) hn u)
abbrev asRect (u : Fin uLoop.trips) (p : Fin 2) (l : Nat) (hl : l + 128 ≤ 256) : Rect (Sh3 32 1 256) :=
  Rect.unit (s := Sh3 32 1 256) (hOff u (BitVec.ofNat 32 p.val) l) (Sh3 1 1 128).size (aOff_inb u p l hl)
abbrev oRect (u : Fin uLoop.trips) (p : Fin 2) : Rect (Sh3 32 256 256) :=
  Rect.unit (s := Sh3 32 256 256) (hOff u (BitVec.ofNat 32 p.val) 0) (Sh3 1 256 256).size (oOff_inb u p)
abbrev eRect (h : Fin eLoop.trips) : Rect (Sh3 32 256 256) :=
  Rect.unit (s := Sh3 32 256 256) (oOff h) (Sh3 1 256 256).size (eOff_inb h)
abbrev ocRect (h : Fin eLoop.trips) : Rect (Sh3 1 256 8192) :=
  Rect.unit (s := Sh3 1 256 8192) (ocOff h) (Sh3 1 256 256).size (ocOff_inb h)

theorem rowsPacked (h row : Nat) (hh : h + 1 ≤ 8) (hr : row + 256 ≤ 2048) (hd : 256 ∣ row) :
    (rowsRect (z := 256) h row hh hr).PackedRows (EltTy.packing .fp8e4m3) :=
  .inr ⟨Nat.le_of_ble_eq_true rfl, rfl, .inl ⟨Nat.dvd_trans (show (4 : Nat) ∣ 256 by decide) hd, show (4 : Nat) ∣ 256 by decide⟩⟩
theorem colsPacked (h row : Nat) (hh : h + 1 ≤ 8) (hr : row + 256 ≤ 2048) :
    (colsRect h row hh hr).PackedRows (EltTy.packing .bf16) :=
  .inr ⟨Nat.le_of_ble_eq_true rfl, rfl, .inl ⟨show (2 : Nat) ∣ 0 by decide, show (2 : Nat) ∣ 256 by decide⟩⟩
theorem ocPacked : ∀ h : Fin eLoop.trips, (ocRect h).PackedRows (EltTy.packing .fp8e4m3) := fun h =>
  .inr ⟨Nat.le_of_ble_eq_true rfl, rfl, .inl ⟨(show (4 : Nat) ∣ 0 by decide), show (4 : Nat) ∣ 256 by decide⟩⟩

theorem pos3 {a b c : Nat} (h : 0 < a * b * c) : 0 < (Sh3 a b c).numel := by rwa [Shape.numel_rank3]

/-! ### The programs -/

section Programs
/-- The programs of the body. -/
abbrev Pg (nD : Nat) (τ : Topo) (sig : RefSig) (F : FTy → Type) (Λ : Labels) : Type _ :=
  Prog (TpuEff nD τ sig (Elt F) Λ .tc) PUnit

variable {nD : Nat} {τ : Topo} {sig : RefSig} {Λ : Labels} (M : Mems sig)

/-- Stage one key head: keys, key scales and scaled values into their rows, then go on with `K`. -/
def stageHead (row h : Nat) (hr : row + 256 ≤ 2048) (hd : 256 ∣ row) (hh : h + 1 ≤ 8) (K : Pg nD τ sig F Λ) : Pg nD τ sig F Λ :=
  .op (.load M.k (headRect h hh).toLoadRect (View.loadsAt_vmem (pos3 (by decide)))) fun (k : Vec F (Sh3 1 256 256) .fp8e4m3) =>
  .op (.load M.kAll (rowsRect h row hh hr).toLoadRect (View.loadsAt_vmem (pos3 (by decide)))) fun _ =>
  .op (.store M.kAll (rowsRect h row hh hr) (stagedK k) Finset.univ
    (View.stores_vmem (pos3 (by decide)) (M.wkAll.storeExact_slice rfl _ (rowsPacked h row hh hr hd)) (fun _ => rfl)) (.inl rfl)) fun _ =>
  .op (.load M.ks (headCol h hh).toLoadRect (View.loadsAt_vmem (pos3 (by decide)))) fun (ks : Vec F (Sh3 1 256 1) .f32) =>
  .op (.load M.ksAll (rowsRect h row hh hr).toLoadRect (View.loadsAt_vmem (pos3 (by decide)))) fun _ =>
  .op (.store M.ksAll (rowsRect h row hh hr) (stagedKs ks) Finset.univ (View.stores_vmem_bits_univ (pos3 (by decide)) rfl) (.inl rfl)) fun _ =>
  .op (.load M.v (headRect h hh).toLoadRect (View.loadsAt_vmem (pos3 (by decide)))) fun (v : Vec F (Sh3 1 256 256) .fp8e4m3) =>
  .op (.load M.vs (headCol h hh).toLoadRect (View.loadsAt_vmem (pos3 (by decide)))) fun (vs : Vec F (Sh3 1 256 1) .f32) =>
  .op (.load M.vtAll (colsRect h row hh hr).toLoadRect (View.loadsAt_vmem (pos3 (by decide)))) fun _ =>
  .op (.store M.vtAll (colsRect h row hh hr) (stagedV v vs) Finset.univ
    (View.stores_vmem (pos3 (by decide)) (M.wvtAll.storeExact_slice rfl _ (colsPacked h row hh hr)) (fun _ => rfl)) (.inl rfl)) fun _ => K

/-- Stage a block: the query scales, then the eight key heads; then clear the running maximum. -/
def stage (κ : F .f32) (row : Nat) (hr : row + 256 ≤ 2048) (hd : 256 ∣ row) (K : Pg nD τ sig F Λ) : Pg nD τ sig F Λ :=
  .op (.load M.xs xsRect.toLoadRect (View.loadsAt_vmem (pos3 (by decide)))) fun (xs : Vec F (Sh3 1 256 32) .f32) =>
  .op (.load M.a aRect.toLoadRect (View.loadsAt_vmem (pos3 (by decide)))) fun _ =>
  .op (.store M.a aRect (stagedA κ xs) Finset.univ (View.stores_vmem_bits_univ (pos3 (by decide)) rfl) (.inl rfl)) fun _ =>
  stageHead M row 0 hr hd (by decide) <| stageHead M row 1 hr hd (by decide) <| stageHead M row 2 hr hd (by decide) <|
  stageHead M row 3 hr hd (by decide) <| stageHead M row 4 hr hd (by decide) <| stageHead M row 5 hr hd (by decide) <|
  stageHead M row 6 hr hd (by decide) <| stageHead M row 7 hr hd (by decide) <|
  .op (.load M.am amRect.toLoadRect (View.loadsAt_vmem (by decide +kernel))) fun _ =>
  .op (.store M.am amRect maxInit Finset.univ (View.stores_vmem_bits_univ (by decide +kernel) rfl) (.inl rfl)) fun _ => K

/-- One unit: the attention of two query heads, its outputs and their maxima. -/
def unit (hd : Nat) (hn : hd + 128 + 128 ≤ 2048) (u : Fin uLoop.trips) : Pg nD τ sig F Λ :=
  .op (.load M.x (xRect u 0).toLoadRect (View.loadsAt_vmem (pos3 (by decide)))) fun (x0 : Vec F (Sh3 1 256 256) .fp8e4m3) =>
  .op (.load M.x (xRect u 1).toLoadRect (View.loadsAt_vmem (pos3 (by decide)))) fun (x1 : Vec F (Sh3 1 256 256) .fp8e4m3) =>
  .op (.load M.kAll (kRect u (hd + 128 + 128) hn).toLoadRect (View.loadsAt_vmem (pos3 (by omega)))) fun (k : Vec F (Sh3 1 (hd + 128 + 128) 256) .fp8e4m3) =>
  .op (.load M.a (asRect u 0 0 (by decide)).toLoadRect (View.loadsAt_vmem (pos3 (by decide)))) fun (a0 : Vec F (Sh3 1 1 128) .f32) =>
  .op (.load M.ksAll (ksRect u (hd + 128) (by omega)).toLoadRect (View.loadsAt_vmem (pos3 (by omega)))) fun (ks0 : Vec F (Sh3 1 (hd + 128) 128) .f32) =>
  .op (.load M.a (asRect u 0 128 (by decide)).toLoadRect (View.loadsAt_vmem (pos3 (by decide)))) fun (a1 : Vec F (Sh3 1 1 128) .f32) =>
  .op (.load M.ksAll (ksRect u (hd + 128 + 128) hn).toLoadRect (View.loadsAt_vmem (pos3 (by omega)))) fun (ks1 : Vec F (Sh3 1 (hd + 128 + 128) 128) .f32) =>
  .op (.load M.a (asRect u 1 0 (by decide)).toLoadRect (View.loadsAt_vmem (pos3 (by decide)))) fun (a2 : Vec F (Sh3 1 1 128) .f32) =>
  .op (.load M.ksAll (ksRect u (hd + 128) (by omega)).toLoadRect (View.loadsAt_vmem (pos3 (by omega)))) fun (ks2 : Vec F (Sh3 1 (hd + 128) 128) .f32) =>
  .op (.load M.a (asRect u 1 128 (by decide)).toLoadRect (View.loadsAt_vmem (pos3 (by decide)))) fun (a3 : Vec F (Sh3 1 1 128) .f32) =>
  .op (.load M.ksAll (ksRect u (hd + 128 + 128) hn).toLoadRect (View.loadsAt_vmem (pos3 (by omega)))) fun (ks3 : Vec F (Sh3 1 (hd + 128 + 128) 128) .f32) =>
  .op (.load M.vtAll (vtRect u (hd + 128 + 128) hn).toLoadRect (View.loadsAt_vmem (pos3 (by omega)))) fun (vt : Vec F (Sh3 1 256 (hd + 128 + 128)) .bf16) =>
  .op (.load M.o (oRect u 0).toLoadRect (View.loadsAt_vmem (pos3 (by decide)))) fun _ =>
  .op (.store M.o (oRect u 0) (outHalf 0 (by decide) (outT (hd + 128 + 128) vt
      (stripE hd 0 (by decide) (scores (hd + 128 + 128) k x0 x1) a0 ks0) (stripO hd 128 (by decide) (scores (hd + 128 + 128) k x0 x1) a1 ks1)
      (stripE hd 256 (by decide) (scores (hd + 128 + 128) k x0 x1) a2 ks2) (stripO hd 384 (by decide) (scores (hd + 128 + 128) k x0 x1) a3 ks3)))
    Finset.univ (View.stores_vmem_bits_univ (pos3 (by decide)) rfl) (.inl rfl)) fun _ =>
  .op (.load M.o (oRect u 1).toLoadRect (View.loadsAt_vmem (pos3 (by decide)))) fun _ =>
  .op (.store M.o (oRect u 1) (outHalf 256 (by decide) (outT (hd + 128 + 128) vt
      (stripE hd 0 (by decide) (scores (hd + 128 + 128) k x0 x1) a0 ks0) (stripO hd 128 (by decide) (scores (hd + 128 + 128) k x0 x1) a1 ks1)
      (stripE hd 256 (by decide) (scores (hd + 128 + 128) k x0 x1) a2 ks2) (stripO hd 384 (by decide) (scores (hd + 128 + 128) k x0 x1) a3 ks3)))
    Finset.univ (View.stores_vmem_bits_univ (pos3 (by decide)) rfl) (.inl rfl)) fun _ =>
  .op (.load M.am amRect.toLoadRect (View.loadsAt_vmem (by decide +kernel))) fun (am : Vec F (Sh2 8 256) .f32) =>
  .op (.load M.am amRect.toLoadRect (View.loadsAt_vmem (by decide +kernel))) fun _ =>
  .op (.store M.am amRect (maxStep (outT (hd + 128 + 128) vt
      (stripE hd 0 (by decide) (scores (hd + 128 + 128) k x0 x1) a0 ks0) (stripO hd 128 (by decide) (scores (hd + 128 + 128) k x0 x1) a1 ks1)
      (stripE hd 256 (by decide) (scores (hd + 128 + 128) k x0 x1) a2 ks2) (stripO hd 384 (by decide) (scores (hd + 128 + 128) k x0 x1) a3 ks3)) am)
    Finset.univ (View.stores_vmem_bits_univ (by decide +kernel) rfl) (.inl rfl)) fun _ => .ret ⟨⟩

/-- The branch of the query block with `hd` earlier keys. -/
def branch (κ : F .f32) (hd : Nat) (hn : hd + 128 + 128 ≤ 2048) (hdvd : 256 ∣ hd) : Pg nD τ sig F Λ :=
  stage M κ hd hn hdvd ((Scf.Loop.for uLoop uOk ⟨⟩ fun u _ => unit M hd hn u) >>= fun _ => .ret ⟨⟩)

/-- Write one head's codes. -/
def emit (e : IVec (Sh2 1 256) 32) (h : Fin eLoop.trips) : Pg nD τ sig F Λ :=
  .op (.load M.o (eRect h).toLoadRect (View.loadsAt_vmem (pos3 (by decide)))) fun (o : Vec F (Sh3 1 256 256) .f32) =>
  .op (.load M.oc (ocRect h).toLoadRect (View.loadsAt_vmem (pos3 (by decide)))) fun _ =>
  .op (.store M.oc (ocRect h) (codes e o) Finset.univ
    (View.stores_vmem (pos3 (by decide)) (M.woc.storeExact_slice rfl _ (ocPacked h)) (fun _ => rfl)) (.inl rfl)) fun _ => .ret ⟨⟩

/-- After the branches: the scale from the running maximum, then the codes of all heads. -/
def finish : Pg nD τ sig F Λ :=
  .op (.load M.am amRect.toLoadRect (View.loadsAt_vmem (by decide +kernel))) fun (am : Vec F (Sh2 8 256) .f32) =>
  .op (.load M.os osRect.toLoadRect (View.loadsAt_vmem (pos3 (by decide)))) fun _ =>
  .op (.store M.os osRect (scaleRow (expo (wanted am))) Finset.univ (View.stores_vmem_bits_univ (pos3 (by decide)) rfl) (.inl rfl)) fun _ =>
  (Scf.Loop.for eLoop eOk ⟨⟩ fun h _ => emit M (expo (wanted am)) h) >>= fun _ => .ret ⟨⟩

/-- The printed test that the grid's second coordinate `q` is `n`. -/
def gateWord (q : Nat) (n : BitVec 32) : BitVec 1 :=
  Scalar.cmpi .ne (Scalar.extui (Scalar.cmpi .eq (BitVec.ofNat 32 q) n) : BitVec 32) 0#32

theorem gateWord_iff : ∀ q n : Fin 8, gateWord q.val (BitVec.ofNat 32 n.val) = 1#1 ↔ q = n := by decide +kernel

/-- Run `b` if the test holds, then `K`. -/
def gate {α : Type} (g : BitVec 1) (b : Pg nD τ sig F Λ) (K : Prog (TpuEff nD τ sig (Elt F) Λ .tc) α) :
    Prog (TpuEff nD τ sig (Elt F) Λ .tc) α :=
  if g = 1#1 then (b >>= fun _ => K) else K

/-- The eight gated branches in turn, then `K`. -/
def gates {α : Type} (q : Nat) (b : Fin 8 → Pg nD τ sig F Λ) (K : Prog (TpuEff nD τ sig (Elt F) Λ .tc) α) :
    Prog (TpuEff nD τ sig (Elt F) Λ .tc) α :=
  gate (gateWord q 0#32) (b 0) <| gate (gateWord q 1#32) (b 1) <| gate (gateWord q 2#32) (b 2) <|
  gate (gateWord q 3#32) (b 3) <| gate (gateWord q 4#32) (b 4) <| gate (gateWord q 5#32) (b 5) <|
  gate (gateWord q 6#32) (b 6) <| gate (gateWord q 7#32) (b 7) K

/-- Exactly the branch of the grid's coordinate runs. -/
theorem gates_eq {α : Type} (q : Fin 8) (b : Fin 8 → Pg nD τ sig F Λ) (K : Prog (TpuEff nD τ sig (Elt F) Λ .tc) α) :
    gates q.val b K = b q >>= fun _ => K := by
  have hp (n : Fin 8) (h : q = n) (b : Pg nD τ sig F Λ) (K : Prog (TpuEff nD τ sig (Elt F) Λ .tc) α) :
      gate (gateWord q.val (BitVec.ofNat 32 n.val)) b K = b >>= fun _ => K :=
    if_pos ((gateWord_iff q n).mpr h)
  have hn (n : Fin 8) (h : q ≠ n) (b : Pg nD τ sig F Λ) (K : Prog (TpuEff nD τ sig (Elt F) Λ .tc) α) :
      gate (gateWord q.val (BitVec.ofNat 32 n.val)) b K = K :=
    if_neg (fun h' => h ((gateWord_iff q n).mp h'))
  have e : gates q.val b K = (List.finRange 8).foldr (fun n K => gate (gateWord q.val (BitVec.ofNat 32 n.val)) (b n) K) K := rfl
  rw [e]
  have go : ∀ l : List (Fin 8), l.Nodup → l.foldr (fun n K => gate (gateWord q.val (BitVec.ofNat 32 n.val)) (b n) K) K
      = if q ∈ l then b q >>= fun _ => K else K := by
    intro l
    induction l with
    | nil => intro _; rfl
    | cons n l ih =>
      intro hl
      obtain ⟨hnl, hl⟩ := List.nodup_cons.mp hl
      rw [List.foldr_cons, ih hl]
      by_cases h : q = n
      · subst h; rw [hp _ rfl, if_neg hnl, if_pos List.mem_cons_self]
      · rw [hn _ h]; simp [h]
  rw [go _ (List.nodup_finRange 8), if_pos (List.mem_finRange q)]

/-- The whole body at query block `q`. -/
def body (κ : F .f32) (q : Fin 8) : Pg nD τ sig F Λ :=
  branch M κ (256 * q.val) (by omega) (Nat.dvd_mul_right 256 q.val) >>= fun _ => finish M

end Programs

end Cert.Proof.H

end
-- ==== Proof.KR.Branch.lean ====
/-
  The printed body is the parametric program: its eight branches are the one branch program at 0, 256, … 1792
  earlier keys, and exactly the branch of the grid's second coordinate runs.
-/
module

public import proofs.«01_k».proof.Proof.Gen.Kernel
public import proofs.«01_k».proof.Proof.H.Prog

@[expose] public section

set_option maxRecDepth 65536
set_option maxHeartbeats 0

noncomputable section

namespace Cert.Kernel.B

open Idealize.ShloMosaic Idealize.SL.Sem Cert.Proof.H Cert.Kernel
open Facts₀ Facts

variable {F : FTy → Type} [FloatOps F]

variable [Facts₀] [Facts]
variable (i : grid0.Coords)
  (arg2 : Memref sig .tc .vmem S1x256x8192 .fp8e4m3) (harg2 : arg2.IsWhole) (arg3 : Memref sig .tc .vmem S1x256x32 .f32) (harg3 : arg3.IsWhole)
  (arg4 : Memref sig .tc .vmem S1x256x2048 .fp8e4m3) (harg4 : arg4.IsWhole) (arg5 : Memref sig .tc .vmem S1x256x8 .f32) (harg5 : arg5.IsWhole)
  (arg6 : Memref sig .tc .vmem S1x256x2048 .fp8e4m3) (harg6 : arg6.IsWhole) (arg7 : Memref sig .tc .vmem S1x256x8 .f32) (harg7 : arg7.IsWhole)
  (arg8 : Memref sig .tc .vmem S1x256x8192 .fp8e4m3) (harg8 : arg8.IsWhole) (arg9 : Memref sig .tc .vmem S1x1x256 .f32) (harg9 : arg9.IsWhole)
  (arg10 : Memref sig .tc .vmem S8x2048x256 .fp8e4m3) (harg10 : arg10.IsWhole) (arg11 : Memref sig .tc .vmem S8x2048x128 .f32) (harg11 : arg11.IsWhole)
  (arg12 : Memref sig .tc .vmem S8x256x2048 .bf16) (harg12 : arg12.IsWhole) (arg13 : Memref sig .tc .vmem S32x1x256 .f32) (harg13 : arg13.IsWhole)
  (arg14 : Memref sig .tc .vmem S2048x512 .f32) (harg14 : arg14.IsWhole) (arg15 : Memref sig .tc .vmem S32x256x256 .f32) (harg15 : arg15.IsWhole)
  (arg16 : Memref sig .tc .vmem S8x256 .f32) (harg16 : arg16.IsWhole)

/-- The body's memrefs. -/
abbrev mems : Mems sig :=
  ⟨arg2, arg3, arg4, arg5, arg6, arg7, arg8, arg9, arg10, arg11, arg12, arg13, arg15, arg16, harg10, harg12, harg8⟩

/-- The factor the body folds into the query scales. -/
abbrev kap : F .f32 := Scalar.ofBits .f32 0x3DB8AA3B#32

theorem branch0 (h : k0_cond1 i = 1#1) :
    k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 0 (by decide) (by decide) := rfl
theorem branch1 (h : k0_cond2 i = 1#1) :
    k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 256 (by decide) (by decide) := rfl
theorem branch2 (h : k0_cond3 i = 1#1) :
    k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 512 (by decide) (by decide) := rfl
theorem branch3 (h : k0_cond4 i = 1#1) :
    k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 768 (by decide) (by decide) := rfl
theorem branch4 (h : k0_cond5 i = 1#1) :
    k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 1024 (by decide) (by decide) := rfl
theorem branch5 (h : k0_cond6 i = 1#1) :
    k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 1280 (by decide) (by decide) := rfl
theorem branch6 (h : k0_cond7 i = 1#1) :
    k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 1536 (by decide) (by decide) := rfl
theorem branch7 (h : k0_cond8 i = 1#1) :
    k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 1792 (by decide) (by decide) := rfl

/-- The first part of the printed body: the gated branches, then the running maximum read. -/
theorem part_gates :
    k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 =
      gates (i 1).val (fun q => branch (mems arg2 arg3 arg4 arg5 arg6 arg7 arg8 harg8 arg9 arg10 harg10 arg11 arg12 harg12 arg13 arg15 arg16) kap (256 * q.val) (by omega) (Nat.dvd_mul_right 256 q.val))
        (.op (.load arg16 amRect.toLoadRect (View.loadsAt_vmem (by decide +kernel)))
          fun (am : Vec F S8x256 .f32) => .ret ⟨wanted am, iota .tc S254x256 32 [0] iota_S254x256_d0_w32⟩) := by
  unfold k0_part89
  simp only [branch0, branch1, branch2, branch3, branch4, branch5, branch6, branch7]
  rfl

/-- The printed body is the parametric one at its query block. -/
theorem body_eq :
    cc0_fp8_causal_gqa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 =
      body (mems arg2 arg3 arg4 arg5 arg6 arg7 arg8 harg8 arg9 arg10 harg10 arg11 arg12 harg12 arg13 arg15 arg16) kap (i 1) := by
  unfold cc0_fp8_causal_gqa
  rw [part_gates]
  refine (congrArg (· >>= _) (gates_eq (i 1) _ _)).trans ?_
  rw [Prog.bind_assoc]
  rfl

end Cert.Kernel.B

end
-- ==== Proof.H.State.lean ====
/-
  What the body does to the contents of its memrefs, as a function of states, and the proof that the parametric
  program does exactly that.
-/
module

public import proofs.«01_k».proof.Proof.H.Prog

@[expose] public section

set_option maxRecDepth 16384

noncomputable section

namespace Cert.Proof.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type}

/-- The contents of the body's memrefs. -/
structure St (F : FTy → Type) where
  x : (Sh3 1 256 8192).Idx → Elt F .fp8e4m3
  xs : (Sh3 1 256 32).Idx → Elt F .f32
  k : (Sh3 1 256 2048).Idx → Elt F .fp8e4m3
  ks : (Sh3 1 256 8).Idx → Elt F .f32
  v : (Sh3 1 256 2048).Idx → Elt F .fp8e4m3
  vs : (Sh3 1 256 8).Idx → Elt F .f32
  oc : (Sh3 1 256 8192).Idx → Elt F .fp8e4m3
  os : (Sh3 1 1 256).Idx → Elt F .f32
  kAll : (Sh3 8 2048 256).Idx → Elt F .fp8e4m3
  ksAll : (Sh3 8 2048 128).Idx → Elt F .f32
  vtAll : (Sh3 8 256 2048).Idx → Elt F .bf16
  a : (Sh3 32 1 256).Idx → Elt F .f32
  o : (Sh3 32 256 256).Idx → Elt F .f32
  am : (Sh2 8 256).Idx → Elt F .f32

/-- What a load through a rectangle reads. -/
abbrev rd {s : Shape} {β : Type} (r : Rect s) (X : s.Idx → β) : r.shape.Idx → β := fun x => X (r.toLoadRect.idx x)

/-- A counted loop's effect on the state, trip by trip. -/
def iter {n : Nat} {σ : Type} (f : Fin n → σ → σ) : Nat → σ → σ
  | 0, S => S
  | k + 1, S => if h : k < n then f ⟨k, h⟩ (iter f k S) else iter f k S

theorem iter_succ {n : Nat} {σ : Type} (f : Fin n → σ → σ) (k : Fin n) (S : σ) :
    iter f (k.val + 1) S = f k (iter f k.val S) := dif_pos k.isLt

section Semantics
variable [FloatOps F]

/-- Staging one key head. -/
def headSt (row h : Nat) (hr : row + 256 ≤ 2048) (hh : h + 1 ≤ 8) (S : St F) : St F :=
  { S with
    kAll := put (rowsRect h row hh hr) (stagedK (F := F) (rd (headRect h hh) S.k)) S.kAll
    ksAll := put (rowsRect h row hh hr) (stagedKs (F := F) (rd (headCol h hh) S.ks)) S.ksAll
    vtAll := put (colsRect h row hh hr) (stagedV (F := F) (rd (headRect h hh) S.v) (rd (headCol h hh) S.vs)) S.vtAll }

/-- Staging the query scales. -/
def scalesSt (κ : F .f32) (S : St F) : St F := { S with a := put aRect (stagedA κ (rd xsRect S.xs)) S.a }

/-- Clearing the running maximum. -/
def clearSt (S : St F) : St F := { S with am := put amRect (maxInit (F := F)) S.am }

/-- Staging a block. -/
def stageSt (κ : F .f32) (row : Nat) (hr : row + 256 ≤ 2048) (S : St F) : St F :=
  clearSt <| headSt row 7 hr (by decide) <| headSt row 6 hr (by decide) <| headSt row 5 hr (by decide) <|
  headSt row 4 hr (by decide) <| headSt row 3 hr (by decide) <| headSt row 2 hr (by decide) <|
  headSt row 1 hr (by decide) <| headSt row 0 hr (by decide) <| scalesSt κ S

/-- The raw scores of a unit. -/
def unitScores (hd : Nat) (hn : hd + 128 + 128 ≤ 2048) (u : Fin uLoop.trips) (S : St F) : FVec F (Sh2 (hd + 128 + 128) 512) .f32 :=
  scores (hd + 128 + 128) (rd (kRect u (hd + 128 + 128) hn) S.kAll) (rd (xRect u 0) S.x) (rd (xRect u 1) S.x)

/-- The outputs of a unit. -/
def unitOut (hd : Nat) (hn : hd + 128 + 128 ≤ 2048) (u : Fin uLoop.trips) (S : St F) : FVec F (Sh2 256 512) .f32 :=
  outT (hd + 128 + 128) (rd (vtRect u (hd + 128 + 128) hn) S.vtAll)
    (stripE hd 0 (by decide) (unitScores hd hn u S) (rd (asRect u 0 0 (by decide)) S.a) (rd (ksRect u (hd + 128) (by omega)) S.ksAll))
    (stripO hd 128 (by decide) (unitScores hd hn u S) (rd (asRect u 0 128 (by decide)) S.a) (rd (ksRect u (hd + 128 + 128) hn) S.ksAll))
    (stripE hd 256 (by decide) (unitScores hd hn u S) (rd (asRect u 1 0 (by decide)) S.a) (rd (ksRect u (hd + 128) (by omega)) S.ksAll))
    (stripO hd 384 (by decide) (unitScores hd hn u S) (rd (asRect u 1 128 (by decide)) S.a) (rd (ksRect u (hd + 128 + 128) hn) S.ksAll))

/-- One unit: its outputs into their two heads' rows, the running maximum taken on. -/
def unitSt (hd : Nat) (hn : hd + 128 + 128 ≤ 2048) (u : Fin uLoop.trips) (S : St F) : St F :=
  { S with
    o := put (oRect u 1) (outHalf 256 (by decide) (unitOut hd hn u S)) (put (oRect u 0) (outHalf 0 (by decide) (unitOut hd hn u S)) S.o)
    am := put amRect (maxStep (unitOut hd hn u S) (rd amRect S.am)) S.am }

/-- A branch: staging, then the sixteen units. -/
def branchSt (κ : F .f32) (hd : Nat) (hn : hd + 128 + 128 ≤ 2048) (S : St F) : St F :=
  iter (unitSt hd hn) uLoop.trips (stageSt κ hd hn S)

/-- Writing one head's codes. -/
def emitSt (e : IVec (Sh2 1 256) 32) (h : Fin eLoop.trips) (S : St F) : St F :=
  { S with oc := put (ocRect h) (codes (F := F) e (rd (eRect h) S.o)) S.oc }

/-- The exponents of the output scales, from the running maximum. -/
def expoSt (S : St F) : IVec (Sh2 1 256) 32 := expo (wanted (F := F) (rd amRect S.am))

/-- The scale and the codes. -/
def finishSt (S : St F) : St F :=
  iter (emitSt (expoSt S)) eLoop.trips { S with os := put osRect (scaleRow (F := F) (expoSt S)) S.os }

/-- The whole body. -/
def bodySt (κ : F .f32) (q : Fin 8) (S : St F) : St F := finishSt (branchSt κ (256 * q.val) (by omega) S)

end Semantics

section Sound
variable {nD : Nat} {τ : Topo} {sig : RefSig} {Ix : Type} [DecidableEq Ix] {Name : Type} [DecidableEq Name]
variable {U : Type} [URA U] {Lvl : Type} [Preorder Lvl] {Λ : Labels}

/-- All of the body's memrefs, owned at the state's contents. -/
def Own (M : Mems sig) (c : Dev nD) (S : St F) : sProp (MT nD τ sig Ix (Elt F) Name U Lvl) :=
  iprop(owns (c : Thread nD τ) M.x fullShare S.x ∗ owns (c : Thread nD τ) M.xs fullShare S.xs ∗
    owns (c : Thread nD τ) M.k fullShare S.k ∗ owns (c : Thread nD τ) M.ks fullShare S.ks ∗
    owns (c : Thread nD τ) M.v fullShare S.v ∗ owns (c : Thread nD τ) M.vs fullShare S.vs ∗
    owns (c : Thread nD τ) M.oc fullShare S.oc ∗ owns (c : Thread nD τ) M.os fullShare S.os ∗
    owns (c : Thread nD τ) M.kAll fullShare S.kAll ∗ owns (c : Thread nD τ) M.ksAll fullShare S.ksAll ∗
    owns (c : Thread nD τ) M.vtAll fullShare S.vtAll ∗ owns (c : Thread nD τ) M.a fullShare S.a ∗
    owns (c : Thread nD τ) M.o fullShare S.o ∗ owns (c : Thread nD τ) M.am fullShare S.am ∗ emp)

variable (M : Mems sig) (c : Dev nD)

section Cells
variable (F τ Ix Name U Lvl)
local notation "Cl" m => Cell (Ix := Ix) (Name := Name) (U := U) (Lvl := Lvl) (Val := Elt F) (c : Thread nD τ) (Own M c) m

def cX : Cl M.x :=
  .here _ _ St.x (fun S X => { S with x := X }) _ (fun _ _ => rfl) (fun _ _ => rfl) (fun _ => rfl)
def cXs : Cl M.xs :=
  .there _ _ (.here _ _ St.xs (fun S X => { S with xs := X }) _ (fun _ _ => rfl) (fun _ _ => rfl) (fun _ => rfl)) _ fun _ _ => rfl
def cK : Cl M.k :=
  .there _ _ (.there _ _ (.here _ _ St.k (fun S X => { S with k := X }) _ (fun _ _ => rfl) (fun _ _ => rfl) (fun _ => rfl)) _ fun _ _ => rfl) _ fun _ _ => rfl
def cKs : Cl M.ks :=
  .there _ _ (.there _ _ (.there _ _ (.here _ _ St.ks (fun S X => { S with ks := X }) _ (fun _ _ => rfl) (fun _ _ => rfl) (fun _ => rfl)) _ fun _ _ => rfl) _ fun _ _ => rfl) _ fun _ _ => rfl
def cV : Cl M.v :=
  .there _ _ (.there _ _ (.there _ _ (.there _ _ (.here _ _ St.v (fun S X => { S with v := X }) _ (fun _ _ => rfl) (fun _ _ => rfl) (fun _ => rfl)) _ fun _ _ => rfl) _ fun _ _ => rfl) _ fun _ _ => rfl) _ fun _ _ => rfl
def cVs : Cl M.vs :=
  .there _ _ (.there _ _ (.there _ _ (.there _ _ (.there _ _ (.here _ _ St.vs (fun S X => { S with vs := X }) _ (fun _ _ => rfl) (fun _ _ => rfl) (fun _ => rfl)) _ fun _ _ => rfl) _ fun _ _ => rfl) _ fun _ _ => rfl) _ fun _ _ => rfl) _ fun _ _ => rfl
def cOc : Cl M.oc :=
  .there _ _ (.there _ _ (.there _ _ (.there _ _ (.there _ _ (.there _ _ (.here _ _ St.oc (fun S X => { S with oc := X }) _ (fun _ _ => rfl) (fun _ _ => rfl) (fun _ => rfl)) _ fun _ _ => rfl) _ fun _ _ => rfl) _ fun _ _ => rfl) _ fun _ _ => rfl) _ fun _ _ => rfl) _ fun _ _ => rfl
def cOs : Cl M.os :=
  .there _ _ (.there _ _ (.there _ _ (.there _ _ (.there _ _ (.there _ _ (.there _ _ (.here _ _ St.os (fun S X => { S with os := X }) _ (fun _ _ => rfl) (fun _ _ => rfl) (fun _ => rfl)) _ fun _ _ => rfl) _ fun _ _ => rfl) _ fun _ _ => rfl) _ fun _ _ => rfl) _ fun _ _ => rfl) _ fun _ _ => rfl) _ fun _ _ => rfl
def cKAll : Cl M.kAll :=
  .there _ _ (.there _ _ (.there _ _ (.there _ _ (.there _ _ (.there _ _ (.there _ _ (.there _ _ (.here _ _ St.kAll (fun S X => { S with kAll := X }) _ (fun _ _ => rfl) (fun _ _ => rfl) (fun _ => rfl)) _ fun _ _ => rfl) _ fun _ _ => rfl) _ fun _ _ => rfl) _ fun _ _ => rfl) _ fun _ _ => rfl) _ fun _ _ => rfl) _ fun _ _ => rfl) _ fun _ _ => rfl
def cKsAll : Cl M.ksAll :=
  .there _ _ (.there _ _ (.there _ _ (.there _ _ (.there _ _ (.there _ _ (.there _ _ (.there _ _ (.there _ _ (.here _ _ St.ksAll (fun S X => { S with ksAll := X }) _ (fun _ _ => rfl) (fun _ _ => rfl) (fun _ => rfl)) _ fun _ _ => rfl) _ fun _ _ => rfl) _ fun _ _ => rfl) _ fun _ _ => rfl) _ fun _ _ => rfl) _ fun _ _ => rfl) _ fun _ _ => rfl) _ fun _ _ => rfl) _ fun _ _ => rfl
def cVtAll : Cl M.vtAll :=
  .there _ _ (.there _ _ (.there _ _ (.there _ _ (.there _ _ (.there _ _ (.there _ _ (.there _ _ (.there _ _ (.there _ _ (.here _ _ St.vtAll (fun S X => { S with vtAll := X }) _ (fun _ _ => rfl) (fun _ _ => rfl) (fun _ => rfl)) _ fun _ _ => rfl) _ fun _ _ => rfl) _ fun _ _ => rfl) _ fun _ _ => rfl) _ fun _ _ => rfl) _ fun _ _ => rfl) _ fun _ _ => rfl) _ fun _ _ => rfl) _ fun _ _ => rfl) _ fun _ _ => rfl
def cA : Cl M.a :=
  .there _ _ (.there _ _ (.there _ _ (.there _ _ (.there _ _ (.there _ _ (.there _ _ (.there _ _ (.there _ _ (.there _ _ (.there _ _ (.here _ _ St.a (fun S X => { S with a := X }) _ (fun _ _ => rfl) (fun _ _ => rfl) (fun _ => rfl)) _ fun _ _ => rfl) _ fun _ _ => rfl) _ fun _ _ => rfl) _ fun _ _ => rfl) _ fun _ _ => rfl) _ fun _ _ => rfl) _ fun _ _ => rfl) _ fun _ _ => rfl) _ fun _ _ => rfl) _ fun _ _ => rfl) _ fun _ _ => rfl
def cO : Cl M.o :=
  .there _ _ (.there _ _ (.there _ _ (.there _ _ (.there _ _ (.there _ _ (.there _ _ (.there _ _ (.there _ _ (.there _ _ (.there _ _ (.there _ _ (.here _ _ St.o (fun S X => { S with o := X }) _ (fun _ _ => rfl) (fun _ _ => rfl) (fun _ => rfl)) _ fun _ _ => rfl) _ fun _ _ => rfl) _ fun _ _ => rfl) _ fun _ _ => rfl) _ fun _ _ => rfl) _ fun _ _ => rfl) _ fun _ _ => rfl) _ fun _ _ => rfl) _ fun _ _ => rfl) _ fun _ _ => rfl) _ fun _ _ => rfl) _ fun _ _ => rfl
def cAm : Cl M.am :=
  .there _ _ (.there _ _ (.there _ _ (.there _ _ (.there _ _ (.there _ _ (.there _ _ (.there _ _ (.there _ _ (.there _ _ (.there _ _ (.there _ _ (.there _ _ (.here _ _ St.am (fun S X => { S with am := X }) _ (fun _ _ => rfl) (fun _ _ => rfl) (fun _ => rfl)) _ fun _ _ => rfl) _ fun _ _ => rfl) _ fun _ _ => rfl) _ fun _ _ => rfl) _ fun _ _ => rfl) _ fun _ _ => rfl) _ fun _ _ => rfl) _ fun _ _ => rfl) _ fun _ _ => rfl) _ fun _ _ => rfl) _ fun _ _ => rfl) _ fun _ _ => rfl) _ fun _ _ => rfl
end Cells

section Steps
variable [FloatOps F]
variable {defs : Defs nD τ sig (Elt F) Λ} {𝒱 : Variants} {bd : Option 𝒱.V} {E : Set Name}
local notation "Tr" => Triple (Ix := Ix) (U := U) (Lvl := Lvl) defs 𝒱 (c : Thread nD τ) bd E (Own M c)

theorem stageHead_sound (row h : Nat) (hr : row + 256 ≤ 2048) (hd : 256 ∣ row) (hh : h + 1 ≤ 8)
    {K : Pg nD τ sig F Λ} {S : St F} {Q : PUnit → St F → Prop} (hK : Tr K (headSt row h hr hh S) Q) :
    Tr (stageHead M row h hr hd hh K) S Q := by
  refine Triple.load (cK F τ Ix Name U Lvl M c) ?_
  refine Triple.load (cKAll F τ Ix Name U Lvl M c) ?_
  refine Triple.store (cKAll F τ Ix Name U Lvl M c) ?_
  refine Triple.load (cKs F τ Ix Name U Lvl M c) ?_
  refine Triple.load (cKsAll F τ Ix Name U Lvl M c) ?_
  refine Triple.store (cKsAll F τ Ix Name U Lvl M c) ?_
  refine Triple.load (cV F τ Ix Name U Lvl M c) ?_
  refine Triple.load (cVs F τ Ix Name U Lvl M c) ?_
  refine Triple.load (cVtAll F τ Ix Name U Lvl M c) ?_
  refine Triple.store (cVtAll F τ Ix Name U Lvl M c) ?_
  dsimp only [cX, cXs, cK, cKs, cV, cVs, cOc, cOs, cKAll, cKsAll, cVtAll, cA, cO, cAm, Cell.here, Cell.there]
  exact hK

theorem stage_sound (κ : F .f32) (row : Nat) (hr : row + 256 ≤ 2048) (hd : 256 ∣ row)
    {K : Pg nD τ sig F Λ} {S : St F} {Q : PUnit → St F → Prop} (hK : Tr K (stageSt κ row hr S) Q) :
    Tr (stage M κ row hr hd K) S Q := by
  refine Triple.load (cXs F τ Ix Name U Lvl M c) ?_
  refine Triple.load (cA F τ Ix Name U Lvl M c) ?_
  refine Triple.store (cA F τ Ix Name U Lvl M c) ?_
  iterate 8 refine stageHead_sound M c _ _ _ _ _ ?_
  refine Triple.load (cAm F τ Ix Name U Lvl M c) ?_
  refine Triple.store (cAm F τ Ix Name U Lvl M c) ?_
  dsimp only [cX, cXs, cK, cKs, cV, cVs, cOc, cOs, cKAll, cKsAll, cVtAll, cA, cO, cAm, Cell.here, Cell.there]
  exact hK

theorem unit_sound (hd : Nat) (hn : hd + 128 + 128 ≤ 2048) (u : Fin uLoop.trips) {S : St F} :
    Tr (unit M hd hn u) S (fun _ S' => S' = unitSt hd hn u S) := by
  refine Triple.load (cX F τ Ix Name U Lvl M c) ?_
  refine Triple.load (cX F τ Ix Name U Lvl M c) ?_
  refine Triple.load (cKAll F τ Ix Name U Lvl M c) ?_
  refine Triple.load (cA F τ Ix Name U Lvl M c) ?_
  refine Triple.load (cKsAll F τ Ix Name U Lvl M c) ?_
  refine Triple.load (cA F τ Ix Name U Lvl M c) ?_
  refine Triple.load (cKsAll F τ Ix Name U Lvl M c) ?_
  refine Triple.load (cA F τ Ix Name U Lvl M c) ?_
  refine Triple.load (cKsAll F τ Ix Name U Lvl M c) ?_
  refine Triple.load (cA F τ Ix Name U Lvl M c) ?_
  refine Triple.load (cKsAll F τ Ix Name U Lvl M c) ?_
  refine Triple.load (cVtAll F τ Ix Name U Lvl M c) ?_
  refine Triple.load (cO F τ Ix Name U Lvl M c) ?_
  refine Triple.store (cO F τ Ix Name U Lvl M c) ?_
  refine Triple.load (cO F τ Ix Name U Lvl M c) ?_
  refine Triple.store (cO F τ Ix Name U Lvl M c) ?_
  refine Triple.load (cAm F τ Ix Name U Lvl M c) ?_
  refine Triple.load (cAm F τ Ix Name U Lvl M c) ?_
  refine Triple.store (cAm F τ Ix Name U Lvl M c) ?_
  dsimp only [cX, cXs, cK, cKs, cV, cVs, cOc, cOs, cKAll, cKsAll, cVtAll, cA, cO, cAm, Cell.here, Cell.there]
  exact Triple.ret rfl

/-- A counted loop whose trips act on the state as `f` acts on it as `iter f`. -/
theorem for_sound {lb ub st : BitVec 32} {hok : Scf.OK lb ub st}
    {body : Fin (Scf.trips lb ub st) → PUnit → Pg nD τ sig F Λ} (f : Fin (Scf.trips lb ub st) → St F → St F)
    (hb : ∀ k a S, Tr (body k a) S (fun _ S' => S' = f k S)) {S : St F} :
    Tr (Scf.for lb ub st hok ⟨⟩ body) S (fun _ S' => S' = iter f (Scf.trips lb ub st) S) := by
  refine Triple.for (fun n _ S' => S' = iter f n S) rfl ?_
  rintro k a S' rfl
  exact (hb k a _).mono fun _ S'' h => h.trans (iter_succ f k S).symm

theorem branch_sound (κ : F .f32) (hd : Nat) (hn : hd + 128 + 128 ≤ 2048) (hdvd : 256 ∣ hd) {S : St F} :
    Tr (branch M κ hd hn hdvd) S (fun _ S' => S' = branchSt κ hd hn S) := by
  refine stage_sound M c κ hd hn hdvd ?_
  exact Triple.bind (for_sound M c (unitSt hd hn) fun u _ _ => unit_sound M c hd hn u) fun _ _ h => Triple.ret h

theorem emit_sound (e : IVec (Sh2 1 256) 32) (h : Fin eLoop.trips) {S : St F} :
    Tr (emit M e h) S (fun _ S' => S' = emitSt e h S) := by
  refine Triple.load (cO F τ Ix Name U Lvl M c) ?_
  refine Triple.load (cOc F τ Ix Name U Lvl M c) ?_
  refine Triple.store (cOc F τ Ix Name U Lvl M c) ?_
  dsimp only [cX, cXs, cK, cKs, cV, cVs, cOc, cOs, cKAll, cKsAll, cVtAll, cA, cO, cAm, Cell.here, Cell.there]
  exact Triple.ret rfl

theorem finish_sound {S : St F} : Tr (finish M) S (fun _ S' => S' = finishSt S) := by
  refine Triple.load (cAm F τ Ix Name U Lvl M c) ?_
  refine Triple.load (cOs F τ Ix Name U Lvl M c) ?_
  refine Triple.store (cOs F τ Ix Name U Lvl M c) ?_
  exact Triple.bind (for_sound M c (emitSt (expoSt S)) fun h _ _ => emit_sound M c _ h) fun _ _ h => Triple.ret h

/-- The body takes the state `S` to `bodySt κ q S`. -/
theorem body_sound (κ : F .f32) (q : Fin 8) {S : St F} : Tr (body M κ q) S (fun _ S' => S' = bodySt κ q S) :=
  Triple.bind (branch_sound M c κ _ _ _) fun _ S' h => by subst h; exact finish_sound M c

end Steps

end Sound

end Cert.Proof.H

end
-- ==== Proof.H.Keep.lean ====
/-
  The body leaves its input blocks as they were.
-/
module

public import proofs.«01_k».proof.Proof.H.State

@[expose] public section

noncomputable section

namespace Cert.Proof.H

open Idealize.ShloMosaic Idealize.ShloMosaic.TcCoe

variable {F : FTy → Type}

/-- What no trip changes, the loop does not change. -/
theorem iter_keep {n : Nat} {σ β : Type} (g : σ → β) (f : Fin n → σ → σ) (h : ∀ k S, g (f k S) = g S) (k : Nat) (S : σ) :
    g (iter f k S) = g S := by
  induction k with
  | zero => rfl
  | succ k ih =>
    show g (if hk : k < n then f ⟨k, hk⟩ (iter f k S) else iter f k S) = _
    split
    · rw [h, ih]
    · exact ih

variable [FloatOps F]

/-- What neither staging, a unit, the scale's store nor a head's emission changes, the body does not change. -/
theorem bodySt_keep {β : Type} (g : St F → β) (κ : F .f32) (q : Fin 8) (S : St F)
    (hs : ∀ S, g (scalesSt κ S) = g S) (hh : ∀ row h hr hh S, g (headSt row h hr hh S) = g S) (hc : ∀ S, g (clearSt S) = g S) (hu : ∀ hd hn u S, g (unitSt hd hn u S) = g S)
    (ho : ∀ (S : St F) X, g { S with os := X } = g S) (he : ∀ e h S, g (emitSt e h S) = g S) : g (bodySt κ q S) = g S := by
  unfold bodySt finishSt
  rw [iter_keep g _ (he _), ho]
  unfold branchSt
  rw [iter_keep g _ (hu _ _)]
  unfold stageSt
  rw [hc, hh, hh, hh, hh, hh, hh, hh, hh, hs]

variable (κ : F .f32) (q : Fin 8) (S : St F)

theorem bodySt_x : (bodySt κ q S).x = S.x := bodySt_keep St.x κ q S (fun _ => by dsimp only [scalesSt]) (fun _ _ _ _ _ => by dsimp only [headSt]) (fun _ => by dsimp only [clearSt])
    (fun _ _ _ _ => by dsimp only [unitSt]) (fun _ _ => by dsimp only) fun _ _ _ => by dsimp only [emitSt]
theorem bodySt_xs : (bodySt κ q S).xs = S.xs := bodySt_keep St.xs κ q S (fun _ => by dsimp only [scalesSt]) (fun _ _ _ _ _ => by dsimp only [headSt]) (fun _ => by dsimp only [clearSt])
    (fun _ _ _ _ => by dsimp only [unitSt]) (fun _ _ => by dsimp only) fun _ _ _ => by dsimp only [emitSt]
theorem bodySt_k : (bodySt κ q S).k = S.k := bodySt_keep St.k κ q S (fun _ => by dsimp only [scalesSt]) (fun _ _ _ _ _ => by dsimp only [headSt]) (fun _ => by dsimp only [clearSt])
    (fun _ _ _ _ => by dsimp only [unitSt]) (fun _ _ => by dsimp only) fun _ _ _ => by dsimp only [emitSt]
theorem bodySt_ks : (bodySt κ q S).ks = S.ks := bodySt_keep St.ks κ q S (fun _ => by dsimp only [scalesSt]) (fun _ _ _ _ _ => by dsimp only [headSt]) (fun _ => by dsimp only [clearSt])
    (fun _ _ _ _ => by dsimp only [unitSt]) (fun _ _ => by dsimp only) fun _ _ _ => by dsimp only [emitSt]
theorem bodySt_v : (bodySt κ q S).v = S.v := bodySt_keep St.v κ q S (fun _ => by dsimp only [scalesSt]) (fun _ _ _ _ _ => by dsimp only [headSt]) (fun _ => by dsimp only [clearSt])
    (fun _ _ _ _ => by dsimp only [unitSt]) (fun _ _ => by dsimp only) fun _ _ _ => by dsimp only [emitSt]
theorem bodySt_vs : (bodySt κ q S).vs = S.vs := bodySt_keep St.vs κ q S (fun _ => by dsimp only [scalesSt]) (fun _ _ _ _ _ => by dsimp only [headSt]) (fun _ => by dsimp only [clearSt])
    (fun _ _ _ _ => by dsimp only [unitSt]) (fun _ _ => by dsimp only) fun _ _ _ => by dsimp only [emitSt]

end Cert.Proof.H

end
-- ==== Proof.KR.Frame.lean ====
/-
  The kernel's run: the body at a grid point takes its memrefs' contents to `bodySt` of them, so the pipeline runs and
  leaves its input arrays as launched.
-/
module

public import proofs.«01_k».proof.Proof.Gen.Kernel.Frame
public import proofs.«01_k».proof.Proof.KR.Branch
public import proofs.«01_k».proof.Proof.H.Keep

@[expose] public section

set_option maxRecDepth 16384

noncomputable section

namespace Cert.Kernel.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proof.H Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's memrefs at a grid point: the current staging buffers and the scratch. -/
abbrev memsAt (t : Fin cfg0.N) : Mems sig :=
  mems (st0_0 t) (st0_1 t) (st0_2 t) (st0_3 t) (st0_4 t) (st0_5 t) (st0_6 t) (hstage0_6 ((cfg0.slots t 6).cast nbuf0_6)) (st0_7 t)
    (Memref.whole cc0_scratch0) (Memref.isWhole_whole _) (Memref.whole cc0_scratch1) (Memref.whole cc0_scratch2) (Memref.isWhole_whole _)
    (Memref.whole cc0_scratch3) (Memref.whole cc0_scratch5) (Memref.whole cc0_scratch6)

/-- The second grid coordinate: the query block's number. -/
abbrev qAt (t : Fin cfg0.N) : Fin 8 := grid0.coords t 1

/-- The body's run at a grid point. -/
theorem body_run (c : Dev nD) (t : Fin cfg0.N) (S : St F) (K : PUnit → sProp 𝕄) :
    iprop(Own (memsAt t) c S ∗ (Own (memsAt t) c (bodySt kap (qAt t) S) -∗ K ⟨⟩)) ⊢
      wp frame (wpE (defs₀ (F := F)) Variants.none (c : Thread nD τ) none) Set.univ (bodyAt0 (F := F) t) K := by
  unfold bodyAt0
  rw [body_eq]
  refine (?_ : (_ : sProp 𝕄) ⊢ _).trans (body_sound (memsAt t) c kap (qAt t) (S := S) K)
  iintro ⟨HO, HK⟩
  isplitl [HO]; · iexact HO
  iintro %a %S' %h HO
  subst h
  iapply HK; iexact HO

/-- The scratch memory outside a body's run: every buffer at some contents, the registers at some state. -/
theorem scratch_eq (c : Dev nD) : (Pipeline.ΦA spec0 c : sProp 𝕄) =
    iprop(((∃ f, owns (c : Thread nD τ) (Memref.whole cc0_scratch0) fullShare f) ∗ (∃ f, owns (c : Thread nD τ) (Memref.whole cc0_scratch1) fullShare f) ∗
      (∃ f, owns (c : Thread nD τ) (Memref.whole cc0_scratch2) fullShare f) ∗ (∃ f, owns (c : Thread nD τ) (Memref.whole cc0_scratch3) fullShare f) ∗
      (∃ f, owns (c : Thread nD τ) (Memref.whole cc0_scratch4) fullShare f) ∗ (∃ f, owns (c : Thread nD τ) (Memref.whole cc0_scratch5) fullShare f) ∗
      (∃ f, owns (c : Thread nD τ) (Memref.whole cc0_scratch6) fullShare f)) ∗ ∃ r, prngReg c r) := by
  simp only [owns_whole]
  unfold Pipeline.ΦA
  rw [scopedRest0_eq]

/-- The two results' windows are the ones whose contents are left unnamed. -/
def forgets : Fin 8 → Bool := fun | 6 => true | 7 => true | _ => false

/-- The proof data: inputs keep their blocks, the results' contents unnamed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => Dat.unnamed 6 t
    | 7 => Dat.unnamed 7 t
  Φ _ := Pipeline.ΦA spec0 c
  q _ := fullShare
  owed _ := 0

theorem body_obligation (c : Dev nD) :
    BodyObligationLoose (dats m 0 c) (defs₀ (F := F)) Variants.none () Set.univ forgets := fun t => by
  rw [bigSep_W0, bigSep_W0]
  simp only [forgets]
  change _ ⊢ wp frame _ _ (bodyAt0 (F := F) t) _
  rw [show (dats m 0 c).owesAt () t.succ = (dats m 0 c).owesAt () t.castSucc from rfl]
  change iprop((Pipeline.ΦA spec0 c : sProp 𝕄) ∗ _) ⊢ wp frame _ _ _ (fun _ => iprop((Pipeline.ΦA spec0 c : sProp 𝕄) ∗ _))
  rw [scratch_eq]
  iintro ⟨⟨⟨⟨%f0, S0⟩, ⟨%f1, S1⟩, ⟨%f2, S2⟩, ⟨%f3, S3⟩, S4, ⟨%f5, S5⟩, ⟨%f6, S6⟩⟩, Hr⟩, Ho, ⟨%d0, H0⟩, ⟨%d1, H1⟩, ⟨%d2, H2⟩, ⟨%d3, H3⟩, ⟨%d4, H4⟩, ⟨%d5, H5⟩, ⟨%X6, H6⟩, ⟨%X7, H7⟩⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5]
  iapply (body_run c t ⟨iblk m c 0 t, iblk m c 1 t, iblk m c 2 t, iblk m c 3 t, iblk m c 4 t, iblk m c 5 t, X6, X7, f0, f1, f2, f3, f5, f6⟩ _)
  unfold Own
  isplitl [S0 S1 S2 S3 S5 S6 H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S5]; · iexact S5
    isplitl [S6]; · iexact S6
    iempintro
  rw [bodySt_x, bodySt_xs, bodySt_k, bodySt_ks, bodySt_v, bodySt_vs]
  iintro ⟨H0, H1, H2, H3, H4, H5, H6, H7, S0, S1, S2, S3, S5, S6, -⟩
  isplitl [S0 S1 S2 S3 S4 S5 S6 Hr]
  · isplitr [Hr]
    · isplitl [S0]; · iexists _; iexact S0
      isplitl [S1]; · iexists _; iexact S1
      isplitl [S2]; · iexists _; iexact S2
      isplitl [S3]; · iexists _; iexact S3
      isplitl [S4]; · iexact S4
      isplitl [S5]; · iexists _; iexact S5
      iexists _; iexact S6
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option backward.isDefEq.respectTransparency.types false in
/-- The frame: every execution ends, the argument arrays as launched and every semaphore at zero. -/
theorem frame_run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.θ_run_frame_forget cfgs (dats m) (0 : Fin 1) launch0 defs₀ Variants.none forgets m ρ main
    (hbody := body_obligation m)
    (hshare := fun c => (dats m 0 c).share_full fun _ => rfl) (howed := fun _ _ => rfl)
    (V := V m) (hmain := hmain m Variants.none) (hA := fun _ _ => rfl) (hΦ := fun _ _ => rfl)
    (Q' := _)
    (hQ' := fun r h => ⟨fun c => ⟨Pipeline.RDat.FramePost.arr_in h.1 c 0 rfl, Pipeline.RDat.FramePost.arr_in h.1 c 1 rfl,
      Pipeline.RDat.FramePost.arr_in h.1 c 2 rfl, Pipeline.RDat.FramePost.arr_in h.1 c 3 rfl,
      Pipeline.RDat.FramePost.arr_in h.1 c 4 rfl, Pipeline.RDat.FramePost.arr_in h.1 c 5 rfl⟩, h.2⟩)

end Cert.Kernel.B

end
-- ==== Proof.KI.Branch.lean ====
/-
  The printed body is the parametric program: its eight branches are the one branch program at 0, 256, … 1792
  earlier keys, and exactly the branch of the grid's second coordinate runs.
-/
module

public import proofs.«01_k».proof.Proof.Gen.KernelIdeal
public import proofs.«01_k».proof.Proof.H.Prog

@[expose] public section

set_option maxRecDepth 65536
set_option maxHeartbeats 0

noncomputable section

namespace Cert.KernelIdeal.B

open Idealize.ShloMosaic Idealize.SL.Sem Cert.Proof.H Cert.KernelIdeal
open Facts₀ Facts

variable {F : FTy → Type} [FloatOps F] [Named F]

variable [Facts₀] [Facts]
variable (i : grid0.Coords)
  (arg2 : Memref sig .tc .vmem S1x256x8192 .fp8e4m3) (harg2 : arg2.IsWhole) (arg3 : Memref sig .tc .vmem S1x256x32 .f32) (harg3 : arg3.IsWhole)
  (arg4 : Memref sig .tc .vmem S1x256x2048 .fp8e4m3) (harg4 : arg4.IsWhole) (arg5 : Memref sig .tc .vmem S1x256x8 .f32) (harg5 : arg5.IsWhole)
  (arg6 : Memref sig .tc .vmem S1x256x2048 .fp8e4m3) (harg6 : arg6.IsWhole) (arg7 : Memref sig .tc .vmem S1x256x8 .f32) (harg7 : arg7.IsWhole)
  (arg8 : Memref sig .tc .vmem S1x256x8192 .fp8e4m3) (harg8 : arg8.IsWhole) (arg9 : Memref sig .tc .vmem S1x1x256 .f32) (harg9 : arg9.IsWhole)
  (arg10 : Memref sig .tc .vmem S8x2048x256 .fp8e4m3) (harg10 : arg10.IsWhole) (arg11 : Memref sig .tc .vmem S8x2048x128 .f32) (harg11 : arg11.IsWhole)
  (arg12 : Memref sig .tc .vmem S8x256x2048 .bf16) (harg12 : arg12.IsWhole) (arg13 : Memref sig .tc .vmem S32x1x256 .f32) (harg13 : arg13.IsWhole)
  (arg14 : Memref sig .tc .vmem S2048x512 .f32) (harg14 : arg14.IsWhole) (arg15 : Memref sig .tc .vmem S32x256x256 .f32) (harg15 : arg15.IsWhole)
  (arg16 : Memref sig .tc .vmem S8x256 .f32) (harg16 : arg16.IsWhole)

/-- The body's memrefs. -/
abbrev mems : Mems sig :=
  ⟨arg2, arg3, arg4, arg5, arg6, arg7, arg8, arg9, arg10, arg11, arg12, arg13, arg15, arg16, harg10, harg12, harg8⟩

/-- The factor the body folds into the query scales. -/
abbrev kap : F .f32 := Named.named κ "log2e_sm" 0x3DB8AA3B#32

theorem branch0 (h : k0_cond1 i = 1#1) :
    k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 0 (by decide) (by decide) := rfl
theorem branch1 (h : k0_cond2 i = 1#1) :
    k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 256 (by decide) (by decide) := rfl
theorem branch2 (h : k0_cond3 i = 1#1) :
    k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 512 (by decide) (by decide) := rfl
theorem branch3 (h : k0_cond4 i = 1#1) :
    k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 768 (by decide) (by decide) := rfl
theorem branch4 (h : k0_cond5 i = 1#1) :
    k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 1024 (by decide) (by decide) := rfl
theorem branch5 (h : k0_cond6 i = 1#1) :
    k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 1280 (by decide) (by decide) := rfl
theorem branch6 (h : k0_cond7 i = 1#1) :
    k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 1536 (by decide) (by decide) := rfl
theorem branch7 (h : k0_cond8 i = 1#1) :
    k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h =
      branch (mems arg2 arg3 arg4 arg5 arg6 arg7 arg8 harg8 arg9 arg10 harg10 arg11 arg12 harg12 arg13 arg15 arg16) kap 1792 (by decide) (by decide) := rfl

/-- The first part of the printed body: the gated branches, then the running maximum read. -/
theorem part_gates :
    k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 =
      gates (i 1).val (fun q => branch (mems arg2 arg3 arg4 arg5 arg6 arg7 arg8 harg8 arg9 arg10 harg10 arg11 arg12 harg12 arg13 arg15 arg16) kap (256 * q.val) (by omega) (Nat.dvd_mul_right 256 q.val))
        (.op (.load arg16 amRect.toLoadRect (View.loadsAt_vmem (by decide +kernel)))
          fun (am : Vec F S8x256 .f32) => .ret ⟨wanted am, iota .tc S254x256 32 [0] iota_S254x256_d0_w32⟩) := by
  unfold k0_part89
  simp only [branch0, branch1, branch2, branch3, branch4, branch5, branch6, branch7]
  rfl

/-- The printed body is the parametric one at its query block. -/
theorem body_eq :
    cc0_fp8_causal_gqa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 =
      body (mems arg2 arg3 arg4 arg5 arg6 arg7 arg8 harg8 arg9 arg10 harg10 arg11 arg12 harg12 arg13 arg15 arg16) kap (i 1) := by
  unfold cc0_fp8_causal_gqa
  rw [part_gates]
  refine (congrArg (· >>= _) (gates_eq (i 1) _ _)).trans ?_
  rw [Prog.bind_assoc]
  rfl

end Cert.KernelIdeal.B

end
-- ==== Proof.KI.Frame.lean ====
/-
  The kernel's run: the body at a grid point takes its memrefs' contents to `bodySt` of them, so the pipeline runs and
  leaves its input arrays as launched.
-/
module

public import proofs.«01_k».proof.Proof.Gen.KernelIdeal.Frame
public import proofs.«01_k».proof.Proof.KI.Branch
public import proofs.«01_k».proof.Proof.H.Keep

@[expose] public section

set_option maxRecDepth 16384

noncomputable section

namespace Cert.KernelIdeal.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proof.H Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's memrefs at a grid point: the current staging buffers and the scratch. -/
abbrev memsAt (t : Fin cfg0.N) : Mems sig :=
  mems (st0_0 t) (st0_1 t) (st0_2 t) (st0_3 t) (st0_4 t) (st0_5 t) (st0_6 t) (hstage0_6 ((cfg0.slots t 6).cast nbuf0_6)) (st0_7 t)
    (Memref.whole cc0_scratch0) (Memref.isWhole_whole _) (Memref.whole cc0_scratch1) (Memref.whole cc0_scratch2) (Memref.isWhole_whole _)
    (Memref.whole cc0_scratch3) (Memref.whole cc0_scratch5) (Memref.whole cc0_scratch6)

/-- The second grid coordinate: the query block's number. -/
abbrev qAt (t : Fin cfg0.N) : Fin 8 := grid0.coords t 1

/-- The body's run at a grid point. -/
theorem body_run (c : Dev nD) (t : Fin cfg0.N) (S : St F) (K : PUnit → sProp 𝕄) :
    iprop(Own (memsAt t) c S ∗ (Own (memsAt t) c (bodySt kap (qAt t) S) -∗ K ⟨⟩)) ⊢
      wp frame (wpE (defs₀ (F := F)) Variants.none (c : Thread nD τ) none) Set.univ (bodyAt0 (F := F) t) K := by
  unfold bodyAt0
  rw [body_eq]
  refine (?_ : (_ : sProp 𝕄) ⊢ _).trans (body_sound (memsAt t) c kap (qAt t) (S := S) K)
  iintro ⟨HO, HK⟩
  isplitl [HO]; · iexact HO
  iintro %a %S' %h HO
  subst h
  iapply HK; iexact HO

/-- The scratch memory outside a body's run: every buffer at some contents, the registers at some state. -/
theorem scratch_eq (c : Dev nD) : (Pipeline.ΦA spec0 c : sProp 𝕄) =
    iprop(((∃ f, owns (c : Thread nD τ) (Memref.whole cc0_scratch0) fullShare f) ∗ (∃ f, owns (c : Thread nD τ) (Memref.whole cc0_scratch1) fullShare f) ∗
      (∃ f, owns (c : Thread nD τ) (Memref.whole cc0_scratch2) fullShare f) ∗ (∃ f, owns (c : Thread nD τ) (Memref.whole cc0_scratch3) fullShare f) ∗
      (∃ f, owns (c : Thread nD τ) (Memref.whole cc0_scratch4) fullShare f) ∗ (∃ f, owns (c : Thread nD τ) (Memref.whole cc0_scratch5) fullShare f) ∗
      (∃ f, owns (c : Thread nD τ) (Memref.whole cc0_scratch6) fullShare f)) ∗ ∃ r, prngReg c r) := by
  simp only [owns_whole]
  unfold Pipeline.ΦA
  rw [scopedRest0_eq]

/-- The two results' windows are the ones whose contents are left unnamed. -/
def forgets : Fin 8 → Bool := fun | 6 => true | 7 => true | _ => false

/-- The proof data: inputs keep their blocks, the results' contents unnamed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => Dat.unnamed 6 t
    | 7 => Dat.unnamed 7 t
  Φ _ := Pipeline.ΦA spec0 c
  q _ := fullShare
  owed _ := 0

theorem body_obligation (c : Dev nD) :
    BodyObligationLoose (dats m 0 c) (defs₀ (F := F)) Variants.none () Set.univ forgets := fun t => by
  rw [bigSep_W0, bigSep_W0]
  simp only [forgets]
  change _ ⊢ wp frame _ _ (bodyAt0 (F := F) t) _
  rw [show (dats m 0 c).owesAt () t.succ = (dats m 0 c).owesAt () t.castSucc from rfl]
  change iprop((Pipeline.ΦA spec0 c : sProp 𝕄) ∗ _) ⊢ wp frame _ _ _ (fun _ => iprop((Pipeline.ΦA spec0 c : sProp 𝕄) ∗ _))
  rw [scratch_eq]
  iintro ⟨⟨⟨⟨%f0, S0⟩, ⟨%f1, S1⟩, ⟨%f2, S2⟩, ⟨%f3, S3⟩, S4, ⟨%f5, S5⟩, ⟨%f6, S6⟩⟩, Hr⟩, Ho, ⟨%d0, H0⟩, ⟨%d1, H1⟩, ⟨%d2, H2⟩, ⟨%d3, H3⟩, ⟨%d4, H4⟩, ⟨%d5, H5⟩, ⟨%X6, H6⟩, ⟨%X7, H7⟩⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5]
  iapply (body_run c t ⟨iblk m c 0 t, iblk m c 1 t, iblk m c 2 t, iblk m c 3 t, iblk m c 4 t, iblk m c 5 t, X6, X7, f0, f1, f2, f3, f5, f6⟩ _)
  unfold Own
  isplitl [S0 S1 S2 S3 S5 S6 H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S5]; · iexact S5
    isplitl [S6]; · iexact S6
    iempintro
  rw [bodySt_x, bodySt_xs, bodySt_k, bodySt_ks, bodySt_v, bodySt_vs]
  iintro ⟨H0, H1, H2, H3, H4, H5, H6, H7, S0, S1, S2, S3, S5, S6, -⟩
  isplitl [S0 S1 S2 S3 S4 S5 S6 Hr]
  · isplitr [Hr]
    · isplitl [S0]; · iexists _; iexact S0
      isplitl [S1]; · iexists _; iexact S1
      isplitl [S2]; · iexists _; iexact S2
      isplitl [S3]; · iexists _; iexact S3
      isplitl [S4]; · iexact S4
      isplitl [S5]; · iexists _; iexact S5
      iexists _; iexact S6
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option backward.isDefEq.respectTransparency.types false in
/-- The frame: every execution ends, the argument arrays as launched and every semaphore at zero. -/
theorem frame_run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.θ_run_frame_forget cfgs (dats m) (0 : Fin 1) launch0 defs₀ Variants.none forgets m ρ main
    (hbody := body_obligation m)
    (hshare := fun c => (dats m 0 c).share_full fun _ => rfl) (howed := fun _ _ => rfl)
    (V := V m) (hmain := hmain m Variants.none) (hA := fun _ _ => rfl) (hΦ := fun _ _ => rfl)
    (Q' := _)
    (hQ' := fun r h => ⟨fun c => ⟨Pipeline.RDat.FramePost.arr_in h.1 c 0 rfl, Pipeline.RDat.FramePost.arr_in h.1 c 1 rfl,
      Pipeline.RDat.FramePost.arr_in h.1 c 2 rfl, Pipeline.RDat.FramePost.arr_in h.1 c 3 rfl,
      Pipeline.RDat.FramePost.arr_in h.1 c 4 rfl, Pipeline.RDat.FramePost.arr_in h.1 c 5 rfl⟩, h.2⟩)

end Cert.KernelIdeal.B

end
-- ==== Proof.A.Row.lean ====
/-
  One row of causal attention on the extended reals. A softmax of base `e` over all keys, the hidden ones at `⊥`, is the
  softmax of base two of the scores scaled by `1 / log 2`, over any number of keys that takes in every visible one; and
  the weights may be multiplied onto the values before or after.
-/
module

public import Idealize.ShloMosaic.PureOps.Ideal

@[expose] public section

noncomputable section

namespace Cert.Proof.A

open Idealize.ShloMosaic

/-- One over the natural logarithm of two. -/
def kap2 : EReal := (((Real.log 2)⁻¹ : ℝ) : EReal)

theorem log2_pos : 0 < Real.log 2 := Real.log_pos (by norm_num)

theorem kap2_nonneg : 0 ≤ kap2 := EReal.coe_nonneg.mpr (inv_nonneg.mpr log2_pos.le)

theorem kap2_pos : 0 < kap2 := EReal.coe_pos.mpr (inv_pos.mpr log2_pos)

theorem kap2_ne_top : kap2 ≠ ⊤ := EReal.coe_ne_top _

theorem kap2_bot : kap2 * ⊥ = ⊥ := EReal.mul_bot_of_pos kap2_pos

theorem exp2_kap2 (w : EReal) : Ideal.exp2 (kap2 * w) = Ideal.exp w := by
  induction w with
  | bot => rw [kap2_bot]; rfl
  | top => rw [EReal.mul_top_of_pos kap2_pos]; rfl
  | coe r =>
    rw [kap2, ← EReal.coe_mul, Ideal.exp2_coe, Ideal.exp_coe]
    congr 1
    show (2 : ℝ) ^ ((Real.log 2)⁻¹ * r) = _
    rw [Real.rpow_def_of_pos (by norm_num), ← mul_assoc, mul_inv_cancel₀ log2_pos.ne', one_mul]

theorem exp_nonneg (w : EReal) : 0 ≤ Ideal.exp w := by
  induction w with
  | bot => exact le_refl _
  | top => exact le_top
  | coe r => exact EReal.coe_nonneg.mpr (Real.exp_pos r).le

theorem kap2_sub (x y : EReal) : kap2 * x - kap2 * y = kap2 * (x - y) := by
  rw [sub_eq_add_neg, sub_eq_add_neg, EReal.left_distrib_of_nonneg_of_ne_top kap2_nonneg kap2_ne_top, mul_neg]

/-- The softmax weights before normalising, over the first `n` keys. -/
def wt (n : ℕ) (z : ℕ → EReal) (j : ℕ) : EReal := Ideal.exp (z j - (Finset.range n).sup z)

/-- The softmax probabilities; no weight at all gives no probability. -/
def prob (n : ℕ) (z : ℕ → EReal) (j : ℕ) : EReal :=
  if 0 < ∑ k ∈ Finset.range n, wt n z k then Ideal.div (wt n z j) (∑ k ∈ Finset.range n, wt n z k) else 0

/-- The same weights in base two. -/
def wt2 (n : ℕ) (z : ℕ → EReal) (j : ℕ) : EReal := Ideal.exp2 (z j - (Finset.range n).sup z)

/-- The same probabilities in base two, by the reciprocal of the sum. -/
def prob2 (n : ℕ) (z : ℕ → EReal) (j : ℕ) : EReal :=
  wt2 n z j * Ideal.div 1 (∑ k ∈ Finset.range n, wt2 n z k)

section
variable {z z' : ℕ → EReal} {i n M : ℕ} (hz : ∀ j, z' j = kap2 * z j) (hhid : ∀ j, i < j → z j = ⊥) (hi : i < n) (hM : n ≤ M)

include hhid hi hM in
theorem sup_visible : (Finset.range M).sup z = (Finset.range n).sup z := by
  refine le_antisymm (Finset.sup_le fun j _ => ?_) (Finset.sup_mono (Finset.range_mono hM))
  by_cases h : i < j
  · rw [hhid j h]; exact bot_le
  · exact Finset.le_sup (f := z) (Finset.mem_range.mpr (by omega))

include hz in
theorem sup_kap2 : (Finset.range n).sup z' = kap2 * (Finset.range n).sup z := by
  rw [Finset.comp_sup_eq_sup_comp (fun w => kap2 * w)
    (fun x y => (show Monotone fun w : EReal => kap2 * w from fun _ _ h => mul_le_mul_of_nonneg_left h kap2_nonneg).map_sup x y)
    kap2_bot]
  exact Finset.sup_congr rfl fun j _ => hz j

include hz hhid hi hM in
theorem wt2_eq (j : ℕ) : wt2 n z' j = wt M z j := by
  rw [wt2, wt, sup_kap2 hz, hz, kap2_sub, exp2_kap2, sup_visible hhid hi hM]

include hhid in
theorem wt_hidden (j : ℕ) (h : i < j) : wt M z j = 0 := by
  rw [wt, hhid j h, sub_eq_add_neg, EReal.bot_add]; rfl

include hz hhid hi hM in
theorem sum_wt2_eq : ∑ k ∈ Finset.range n, wt2 n z' k = ∑ k ∈ Finset.range M, wt M z k := by
  rw [Finset.sum_congr rfl fun k _ => wt2_eq hz hhid hi hM k]
  refine Finset.sum_subset (Finset.range_mono hM) fun k _ hk => wt_hidden hhid k ?_
  rw [Finset.mem_range] at hk; omega

include hhid in
theorem prob_hidden (j : ℕ) (h : i < j) : prob M z j = 0 := by
  rw [prob, wt_hidden hhid j h]
  split
  · rename_i hp; rw [Ideal.div, if_neg hp.ne', zero_mul]
  · rfl

include hz hhid hi hM in
theorem prob2_eq (j : ℕ) (hj : j < M) : prob2 n z' j = prob M z j := by
  rw [prob2, prob, sum_wt2_eq hz hhid hi hM, wt2_eq hz hhid hi hM]
  have hnn : ∀ k ∈ Finset.range M, 0 ≤ wt M z k := fun k _ => exp_nonneg _
  split
  · rename_i hp; rw [Ideal.div, Ideal.div, if_neg hp.ne', if_neg hp.ne', one_mul]
  · rename_i hp
    have h0 : ∑ k ∈ Finset.range M, wt M z k = 0 := le_antisymm (not_lt.mp hp) (Finset.sum_nonneg hnn)
    rw [(Finset.sum_eq_zero_iff_of_nonneg hnn).mp h0 j (Finset.mem_range.mpr hj), zero_mul]

include hz hhid hi hM in
/-- THE ROW: weighted values summed over the first `N` keys in base two, the padding with weight nothing, are the
    reference's sum over all keys. -/
theorem row_eq {N : ℕ} (hn : n ≤ N) (hN : N ≤ M) (p V vs : ℕ → EReal) (hp : ∀ j < n, p j = prob2 n z' j) (hp0 : ∀ j, n ≤ j → p j = 0) :
    ∑ j ∈ Finset.range N, (V j * vs j) * p j = ∑ j ∈ Finset.range M, (prob M z j * vs j) * V j := by
  rw [← Finset.sum_subset (Finset.range_mono hN) fun k _ hk => by
    rw [Finset.mem_range] at hk; rw [prob_hidden hhid k (by omega), zero_mul, zero_mul]]
  refine Finset.sum_congr rfl fun j hj => ?_
  have : p j = prob M z j := by
    by_cases h : j < n
    · rw [hp j h, prob2_eq hz hhid hi hM j (by omega)]
    · rw [hp0 j (by omega), prob_hidden hhid j (by omega)]
  rw [this, mul_comm (V j * vs j), mul_comm (V j), mul_assoc]
end

end Cert.Proof.A

end
-- ==== Proof.A.Spec.lean ====
/-
  What both programs compute, element by element, over the natural numbers: arrays read at natural coordinates, the masked
  scores of a query row, its outputs, the largest magnitude of a position, its scale and its codes.
-/
module

public import proofs.«01_k».proof.Proof.A.Row
public import proofs.«01_k».proof.Proof.H.Vals
public import Idealize.ShloMosaic.Lib.Pointwise

@[expose] public section

noncomputable section

namespace Cert.Proof.A

open Idealize.ShloMosaic

/-- An array of rank three at natural coordinates; nothing outside it. -/
def nat3 {A B C : ℕ} (X : (H.Sh3 A B C).Idx → EReal) (a b c : ℕ) : EReal :=
  if h : a < A ∧ b < B ∧ c < C then X (ix3 ⟨a, h.1⟩ ⟨b, h.2.1⟩ ⟨c, h.2.2⟩) else 0

theorem at_nat3 {A B C : ℕ} (X : (H.Sh3 A B C).Idx → EReal) (a : Fin A) (b : Fin B) (c : Fin C) (a' b' c' : ℕ)
    (ha : a.val = a') (hb : b.val = b') (hc : c.val = c') : X (ix3 a b c) = nat3 X a' b' c' := by
  subst ha; subst hb; subst hc
  rw [nat3, dif_pos ⟨a.isLt, b.isLt, c.isLt⟩]

theorem at_nat3' {A B C : ℕ} (X : (H.Sh3 A B C).Idx → EReal) (i : (H.Sh3 A B C).Idx) (a' b' c' : ℕ)
    (ha : (i 0).val = a') (hb : (i 1).val = b') (hc : (i 2).val = c') : X i = nat3 X a' b' c' := by
  have : i = ix3 (i 0) (i 1) (i 2) := by funext x; fin_cases x <;> rfl
  rw [this]; exact at_nat3 X _ _ _ a' b' c' ha hb hc

/-- A maximum over the first `n` naturals is the fold of `max` over `Fin n` from the bottom. -/
theorem fold_max_eq (n : ℕ) (f : ℕ → EReal) (g : Fin n → EReal) (hg : ∀ i : Fin n, g i = f i) :
    Finset.univ.fold max ⊥ g = (Finset.range n).sup f := by
  refine le_antisymm (Finset.sup_le (f := g) fun i _ => ?_) (Finset.sup_le fun i hi => ?_)
  · rw [hg]; exact Finset.le_sup (f := f) (Finset.mem_range.mpr i.isLt)
  · have h := Finset.mem_range.mp hi
    rw [show f i = g ⟨i, h⟩ from (hg ⟨i, h⟩).symm]
    exact Finset.le_sup (f := g) (Finset.mem_univ _)

/-- A sum over `Fin n` is the sum over the first `n` naturals. -/
theorem sum_fin_eq (n : ℕ) (f : ℕ → EReal) (g : Fin n → EReal) (hg : ∀ i : Fin n, g i = f i) :
    ∑ i, g i = ∑ i ∈ Finset.range n, f i := by
  rw [← Fin.sum_univ_eq_sum_range]; exact Finset.sum_congr rfl fun i _ => hg i

/-! ### The constants -/

theorem bits_ninf : Ideal.ofBits .f32 0xFF800000#32 = ⊥ := by
  simp [Ideal.ofBits, Ideal.ieee]

/-- One sixteenth, the softmax scale. -/
abbrev c16 : EReal := Ideal.ofBits .f32 0x3D800000#32

/-- The reciprocal of the largest code, rounded to f32. -/
abbrev c448 : EReal := Ideal.ofBits .f32 0x3B124925#32

/-! ### The inputs, and what is computed from them -/

/-- The six inputs at natural coordinates: batch, position, column. -/
structure In where
  x : ℕ → ℕ → ℕ → EReal
  xs : ℕ → ℕ → ℕ → EReal
  k : ℕ → ℕ → ℕ → EReal
  ks : ℕ → ℕ → ℕ → EReal
  v : ℕ → ℕ → ℕ → EReal
  vs : ℕ → ℕ → ℕ → EReal

variable (I : In)

/-- The product of query head `h` at position `i` with its key at position `j`. -/
def raw (b h i j : ℕ) : EReal := ∑ d ∈ Finset.range 256, I.x b i (256 * h + d) * I.k b j (256 * (h / 4) + d)

/-- The score, `⊥` where the key is later than the query. -/
def score (b h i j : ℕ) : EReal :=
  if j ≤ i then raw I b h i j * (I.xs b i h * c16) * I.ks b j (h / 4) else ⊥

/-- Feature `d` of head `h`'s output at position `i`. -/
def outv (b i h d : ℕ) : EReal :=
  ∑ j ∈ Finset.range 2048, (prob 2048 (score I b h i) j * I.vs b j (h / 4)) * I.v b j (256 * (h / 4) + d)

/-- The magnitude. -/
def mag (x : EReal) : EReal := max x (-x)

/-- The largest magnitude of a position, over all heads and features. -/
def amax (b i : ℕ) : EReal := (Finset.range 8192).sup fun c => mag (outv I b i (c / 256) (c % 256))

/-- The exponent of the power of two above `r`; zero outside the normal range. -/
def exR (r : EReal) : EReal :=
  if Ideal.ofBits .f32 0x00800000#32 ≤ r ∧ r < Ideal.ofBits .f32 0x7F000000#32 then
    Ideal.liftRound Int.floor (Ideal.div (Ideal.log r) (Ideal.log (Ideal.ofBits .f32 0x40000000#32))) + 1 else 0

/-- The output scale. -/
def scaleR (r : EReal) : EReal := Ideal.exp2 (exR r)

/-- Its reciprocal; nothing where that is not a normal number. -/
def invR (r : EReal) : EReal := if exR r ≤ Ideal.ofBits .f32 0x42FC0000#32 then Ideal.exp2 (0 - exR r) else 0

/-- The code of `o` under a reciprocal scale, clipped. -/
def clip (o : EReal) : EReal := min (Ideal.ofBits .f32 0x43E00000#32) (max (Ideal.ofBits .f32 0xC3E00000#32) o)

/-- The scale of position `i`. -/
def scaleAt (b i : ℕ) : EReal := scaleR (amax I b i * c448)

/-- The code of column `c` of position `i`. -/
def codeAt (b i c : ℕ) : EReal := clip (outv I b i (c / 256) (c % 256) * invR (amax I b i * c448))

end Cert.Proof.A

end
-- ==== Proof.A.Reduce.lean ====
/-
  Sums and maxima over one axis, read at an index over the natural numbers, at any extents.
-/
module

public import proofs.«01_k».proof.Proof.A.Spec
public import Idealize.ShloMosaic.PureOps.Ideal.Laws

@[expose] public section

noncomputable section

namespace Cert.Proof.A

open Idealize.ShloMosaic Cert.Proof.H

theorem max_rows {n m : ℕ} (z : FVec Ideal (Sh2 n m) .f32) (h : (Sh2 n m).Reduces [0] (Sh1 m)) (h₁ : FKind.Formats .f32)
    (h₂ : (0xFF800000#32 : BitVec FTy.f32.bits) = FKind.maximumf.neutral .f32 h₁) (j : Fin m)
    (f : ℕ → EReal) (hf : ∀ i : Fin n, z (ix2 i j) = f i) :
    multiReduction .maximumf [0] (Sh1 m) z 0xFF800000#32 h h₁ h₂ (ix1 j) = (Finset.range n).sup f := by
  rw [Ideal.multiReduction_maximumf_single]
  show Finset.univ.fold max (Ideal.ofBits .f32 0xFF800000#32) _ = _
  rw [bits_ninf]
  refine fold_max_eq n f _ fun i => ?_
  rw [← hf i]
  show z _ = z _
  congr 1
  funext x; fin_cases x <;> rfl

theorem add_rows {n m : ℕ} (z : FVec Ideal (Sh2 n m) .f32) (h : (Sh2 n m).Reduces [0] (Sh1 m)) (h₁ : FKind.Formats .f32)
    (h₂ : (0x00000000#32 : BitVec FTy.f32.bits) = FKind.add.neutral .f32 h₁) (j : Fin m)
    (f : ℕ → EReal) (hf : ∀ i : Fin n, z (ix2 i j) = f i) :
    multiReduction .add [0] (Sh1 m) z 0x00000000#32 h h₁ h₂ (ix1 j) = ∑ i ∈ Finset.range n, f i := by
  rw [Ideal.multiReduction_add_single]
  refine sum_fin_eq n f _ fun i => ?_
  rw [← hf i]
  show z _ = z _
  congr 1
  funext x; fin_cases x <;> rfl

theorem max_cols {a b n : ℕ} (z : FVec Ideal (Sh3 a b n) .f32) (h : (Sh3 a b n).Reduces [2] (Sh2 a b)) (h₁ : FKind.Formats .f32)
    (h₂ : (0xFF800000#32 : BitVec FTy.f32.bits) = FKind.maximumf.neutral .f32 h₁) (i : Fin a) (j : Fin b)
    (f : ℕ → EReal) (hf : ∀ k : Fin n, z (ix3 i j k) = f k) :
    multiReduction .maximumf [2] (Sh2 a b) z 0xFF800000#32 h h₁ h₂ (ix2 i j) = (Finset.range n).sup f := by
  rw [Ideal.multiReduction_maximumf_single]
  show Finset.univ.fold max (Ideal.ofBits .f32 0xFF800000#32) _ = _
  rw [bits_ninf]
  refine fold_max_eq n f _ fun k => ?_
  rw [← hf k]
  show z _ = z _
  congr 1
  funext x; fin_cases x <;> rfl

theorem max_groups {n a b : ℕ} (z : FVec Ideal (Sh3 n a b) .f32) (h : (Sh3 n a b).Reduces [0] (Sh2 a b)) (h₁ : FKind.Formats .f32)
    (h₂ : (0xFF800000#32 : BitVec FTy.f32.bits) = FKind.maximumf.neutral .f32 h₁) (i : Fin a) (j : Fin b)
    (f : ℕ → EReal) (hf : ∀ k : Fin n, z (ix3 k i j) = f k) :
    multiReduction .maximumf [0] (Sh2 a b) z 0xFF800000#32 h h₁ h₂ (ix2 i j) = (Finset.range n).sup f := by
  rw [Ideal.multiReduction_maximumf_single]
  show Finset.univ.fold max (Ideal.ofBits .f32 0xFF800000#32) _ = _
  rw [bits_ninf]
  refine fold_max_eq n f _ fun k => ?_
  rw [← hf k]
  show z _ = z _
  congr 1
  funext x; fin_cases x <;> rfl

/-- Signed comparison of small naturals. -/
theorem sle_nat (a b : ℕ) (ha : a < 2 ^ 31) (hb : b < 2 ^ 31) :
    IntOp.cmpi CmpIPredicate.sle (BitVec.ofNat 32 a) (BitVec.ofNat 32 b) = BitVec.ofBool (decide (a ≤ b)) := by
  show BitVec.ofBool (BitVec.sle _ _) = _
  congr 1
  rw [BitVec.sle_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  simp

/-- The softmax probabilities over `Fin n`, as a program writes them. -/
def probFin {n : ℕ} (z : Fin n → EReal) (j : Fin n) : EReal :=
  if 0 < ∑ k, Ideal.exp (z k - Finset.fold max (Ideal.ofBits FTy.f32 0xFF800000#32) z Finset.univ) then
    Ideal.div (Ideal.exp (z j - Finset.fold max (Ideal.ofBits FTy.f32 0xFF800000#32) z Finset.univ))
      (∑ k, Ideal.exp (z k - Finset.fold max (Ideal.ofBits FTy.f32 0xFF800000#32) z Finset.univ)) else 0

theorem probFin_eq {n : ℕ} (z : Fin n → EReal) (f : ℕ → EReal) (hz : ∀ j : Fin n, z j = f j) (j : Fin n) :
    probFin z j = prob n f j := by
  have hw : ∀ k : Fin n, Ideal.exp (z k - Finset.fold max (Ideal.ofBits FTy.f32 0xFF800000#32) z Finset.univ) = wt n f k := by
    intro k; rw [bits_ninf, fold_max_eq n f z hz, hz, wt]
  rw [probFin, sum_fin_eq n (wt n f) _ hw, hw, prob]

end Cert.Proof.A

end
-- ==== Proof.RI.Value.lean ====
/-
  The reference's results at an index: the values it computes from whole input arrays are the specification's.
-/
module

public import proofs.«01_k».proof.Proof.Gen.ReferenceIdeal.Frame
public import proofs.«01_k».proof.Proof.A.Reduce

@[expose] public section

noncomputable section

namespace Cert.ReferenceIdeal.B

open Idealize.ShloMosaic Cert.ReferenceIdeal Cert.ReferenceIdeal.Gen Cert.Proof.A
open Facts₀ Facts

/-- The inputs at natural coordinates. -/
def inp (x : Vec Ideal S8x2048x8192 .fp8e4m3) (xs : Vec Ideal S8x2048x32 .f32) (k : Vec Ideal S8x2048x2048 .fp8e4m3)
    (ks : Vec Ideal S8x2048x8 .f32) (v : Vec Ideal S8x2048x2048 .fp8e4m3) (vs : Vec Ideal S8x2048x8 .f32) : In where
  x := nat3 (A := 8) (B := 2048) (C := 8192) x
  xs := nat3 (A := 8) (B := 2048) (C := 32) xs
  k := nat3 (A := 8) (B := 2048) (C := 2048) k
  ks := nat3 (A := 8) (B := 2048) (C := 8) ks
  v := nat3 (A := 8) (B := 2048) (C := 2048) v
  vs := nat3 (A := 8) (B := 2048) (C := 8) vs

variable (x : Vec Ideal S8x2048x8192 .fp8e4m3) (xs : Vec Ideal S8x2048x32 .f32) (k : Vec Ideal S8x2048x2048 .fp8e4m3)
  (ks : Vec Ideal S8x2048x8 .f32) (v : Vec Ideal S8x2048x2048 .fp8e4m3) (vs : Vec Ideal S8x2048x8 .f32)

theorem values_at (n : Fin 64) (s : Fin 2048) (d : Fin 256) :
    k0_pay3 (F := Ideal) v (ix3 n s d) = (inp x xs k ks v vs).v (n / 8) s (256 * (n % 8) + d) := by
  unfold k0_pay3
  pointwise
  exact at_nat3 v _ _ _ _ _ _ rfl rfl (by show _ * 256 + _ = _; omega)

theorem valueScales_at (n : Fin 64) (s : Fin 2048) :
    k0_pay4 (F := Ideal) vs (ix2 n s) = (inp x xs k ks v vs).vs (n / 8) s (n % 8) := by
  unfold k0_pay4
  pointwise
  exact at_nat3 vs _ _ _ _ _ _ rfl rfl rfl

theorem scores_at (n : Fin 64) (g : Fin 4) (i : Fin 2048) (j : Fin 2048) :
    k0_pay5 (F := Ideal) x k xs ks (ix4 n g i j) = score (inp x xs k ks v vs) (n / 8) (n % 8 * 4 + g) i j := by
  unfold k0_pay5
  pointwise
  have hg : (n % 8 * 4 + g : ℕ) / 4 = n % 8 := by omega
  have hc := sle_nat j.val i.val (by omega) (by omega)
  rw [score, hc, bits_ninf, raw, hg]
  by_cases h : j.val ≤ i.val
  · rw [if_pos h, decide_eq_true h]
    show _ * (_ * _) * _ = _
    congr 1
    · congr 1
      · exact sum_fin_eq 256 _ _ fun d => congrArg₂ (· * ·)
          (at_nat3 x _ _ _ _ _ _ rfl rfl (by show _ * 1024 + _ * 256 + _ = _; omega))
          (at_nat3 k _ _ _ _ _ _ rfl rfl (by show _ * 256 + _ = _; omega))
      · congr 1
        exact at_nat3 xs _ _ _ _ _ _ rfl rfl rfl
    · exact at_nat3 ks _ _ _ _ _ _ rfl rfl rfl
  · rw [if_neg h, decide_eq_false h]; rfl

/-- The outputs before quantising. -/
abbrev outs : FVec Ideal S8x2048x8192 .f32 := k0_pay6 (F := Ideal) (k0_pay3 v) (k0_pay4 vs) (k0_pay5 x k xs ks)

theorem weighted_at (v : FVec Ideal S64x2048x256 .bf16) (vs : FVec Ideal S64x2048 .f32) (z : FVec Ideal S64x4x2048x2048 .f32)
    (b : Fin 8) (i : Fin 2048) (c : Fin 8192) (n : Fin 64) (g : Fin 4) (d : Fin 256)
    (hn : n.val = b.val * 8 + c.val / 1024) (hg : g.val = c.val / 256 % 4) (hd : d.val = c.val % 256) :
    k0_pay6 (F := Ideal) v vs z (ix3 b i c) = ∑ j : Fin 2048, probFin (fun j => z (ix4 n g i j)) j * vs (ix2 n j) * v (ix3 n j d) := by
  have hi := i.isLt
  have e1 : ∀ h, (⟨b.val * 8 + c.val / 1024, h⟩ : Fin 64) = n := fun h => Fin.ext hn.symm
  have e2 : ∀ h, (⟨(c.val / 256 % 4 * 2048 + i.val) / 2048, h⟩ : Fin 4) = g := fun h => Fin.ext (by rw [hg]; show _ / 2048 = _; omega)
  have e3 : ∀ h, (⟨c.val % 256, h⟩ : Fin 256) = d := fun h => Fin.ext hd.symm
  unfold k0_pay6
  pointwise
  simp only [e1, e2, e3]
  rfl

theorem outs_at (b : Fin 8) (i : Fin 2048) (c : Fin 8192) :
    outs x xs k ks v vs (ix3 b i c) = outv (inp x xs k ks v vs) b i (c / 256) (c % 256) := by
  have hb := b.isLt; have hc := c.isLt; have hi := i.isLt
  obtain ⟨n, hn⟩ : ∃ n : Fin 64, n.val = b.val * 8 + c.val / 1024 := ⟨⟨_, by omega⟩, rfl⟩
  obtain ⟨g, hg⟩ : ∃ g : Fin 4, g.val = c.val / 256 % 4 := ⟨⟨_, by omega⟩, rfl⟩
  obtain ⟨d, hd⟩ : ∃ d : Fin 256, d.val = c.val % 256 := ⟨⟨_, by omega⟩, rfl⟩
  rw [outs, weighted_at _ _ _ b i c n g d hn hg hd, outv]
  refine sum_fin_eq 2048 _ _ fun j => ?_
  rw [probFin_eq _ (score (inp x xs k ks v vs) b (c / 256) i) (fun j => by
      rw [scores_at x xs k ks v vs, show n.val / 8 = b.val by omega, show n.val % 8 * 4 + g.val = c.val / 256 by omega]) j,
    values_at x xs k ks v vs, valueScales_at x xs k ks v vs, show n.val / 8 = b.val by omega,
    show n.val % 8 = c.val / 256 / 4 by omega, hd]

end Cert.ReferenceIdeal.B

end
-- ==== Proof.A.Scale.lean ====
/-
  The quantiser. The exponent the kernel finds by counting the powers of two that `r` reaches is the floor of `r`'s
  logarithm to base two, one added; and a power of two made from its bits is that power of two.
-/
module

public import proofs.«01_k».proof.Proof.A.Spec

@[expose] public section

noncomputable section

namespace Cert.Proof.A

open Idealize.ShloMosaic

/-- A pattern with exponent field `k` and nothing else is the power of two `k - 127`. -/
theorem bits_pow2 (k : ℕ) (h1 : 1 ≤ k) (h2 : k ≤ 254) :
    Ideal.ofBits .f32 (BitVec.ofNat 32 (k * 2 ^ 23)) = (((2 : ℝ) ^ ((k : ℤ) - 127) : ℝ) : EReal) := by
  have hn : (BitVec.ofNat 32 (k * 2 ^ 23)).toNat = k * 2 ^ 23 := by
    rw [BitVec.toNat_ofNat, Nat.mod_eq_of_lt (by omega)]
  have he : ((BitVec.ofNat 32 (k * 2 ^ 23)).extractLsb' 23 8).toNat = k := by
    rw [BitVec.extractLsb'_toNat, hn, Nat.shiftRight_eq_div_pow, Nat.mul_div_cancel _ (by norm_num),
      Nat.mod_eq_of_lt (by omega)]
  have hf : ((BitVec.ofNat 32 (k * 2 ^ 23)).extractLsb' 0 23).toNat = 0 := by
    rw [BitVec.extractLsb'_toNat, hn, Nat.shiftRight_zero, Nat.mul_mod_left]
  have hs : ((BitVec.ofNat 32 (k * 2 ^ 23)).extractLsb' 31 1 == 1#1) = false := by
    rw [beq_eq_false_iff_ne]
    intro h
    have := congrArg BitVec.toNat h
    rw [BitVec.extractLsb'_toNat, hn, Nat.shiftRight_eq_div_pow] at this
    rw [Nat.div_eq_of_lt (by omega)] at this
    simp at this
  show Ideal.ieee 8 23 _ = _
  unfold Ideal.ieee
  simp only [he, hf, hs]
  rw [if_neg (by omega), if_neg (by omega)]
  congr 1
  rw [if_neg (by decide), one_mul, Nat.add_zero, Nat.cast_pow, ← zpow_natCast, Nat.cast_ofNat, ← zpow_add₀ (by norm_num)]
  congr 1
  push_cast
  ring

theorem bits_zero : Ideal.ofBits .f32 0x00000000#32 = 0 := by
  simp [Ideal.ofBits, Ideal.ieee]

theorem bits_one : Ideal.ofBits .f32 0x3F800000#32 = 1 := by
  rw [show (0x3F800000#32 : BitVec 32) = BitVec.ofNat 32 (127 * 2 ^ 23) from rfl, bits_pow2 127 (by norm_num) (by norm_num)]
  norm_num

theorem bits_two : Ideal.ofBits .f32 0x40000000#32 = ((2 : ℝ) : EReal) := by
  rw [show (0x40000000#32 : BitVec 32) = BitVec.ofNat 32 (128 * 2 ^ 23) from rfl, bits_pow2 128 (by norm_num) (by norm_num)]
  norm_num

theorem bits_min : Ideal.ofBits .f32 0x00800000#32 = (((2 : ℝ) ^ (-126 : ℤ) : ℝ) : EReal) := by
  rw [show (0x00800000#32 : BitVec 32) = BitVec.ofNat 32 (1 * 2 ^ 23) from rfl, bits_pow2 1 (by norm_num) (by norm_num)]
  norm_num

theorem bits_max : Ideal.ofBits .f32 0x7F000000#32 = (((2 : ℝ) ^ (127 : ℤ) : ℝ) : EReal) := by
  rw [show (0x7F000000#32 : BitVec 32) = BitVec.ofNat 32 (254 * 2 ^ 23) from rfl, bits_pow2 254 (by norm_num) (by norm_num)]
  norm_num

theorem bits_126 : Ideal.ofBits .f32 0x42FC0000#32 = ((126 : ℝ) : EReal) := by
  simp [Ideal.ofBits, Ideal.ieee]
  rw [← EReal.coe_mul]; congr 1; norm_num

theorem bits_255 : Ideal.ofBits .f32 0x437F0000#32 = ((255 : ℝ) : EReal) := by
  simp [Ideal.ofBits, Ideal.ieee]
  rw [← EReal.coe_mul]; congr 1; norm_num

/-- The largest natural power count below a real in the normal range. -/
def lvl (r : ℝ) : ℤ := ⌊Real.log r / Real.log 2⌋

theorem le_lvl {r : ℝ} (hr : 0 < r) (k : ℤ) : k ≤ lvl r ↔ (2 : ℝ) ^ k ≤ r := by
  rw [lvl, Int.le_floor, le_div_iff₀ log2_pos, ← Real.log_zpow, Real.log_le_log_iff (by positivity) hr]

/-- Counting the powers of two from the least normal one that `r` reaches. -/
theorem count_eq {r : ℝ} (hr : 0 < r) (h1 : -126 ≤ lvl r) (h2 : lvl r ≤ 126) :
    (∑ k ∈ Finset.range 254, if (((2 : ℝ) ^ ((k : ℤ) - 126) : ℝ) : EReal) ≤ (r : EReal) then (1 : EReal) else 0)
      = (((lvl r + 127 : ℤ) : ℝ) : EReal) := by
  have hk : ∀ k : ℕ, ((((2 : ℝ) ^ ((k : ℤ) - 126) : ℝ) : EReal) ≤ (r : EReal)) ↔ k ∈ Finset.range (lvl r + 127).toNat := by
    intro k
    rw [EReal.coe_le_coe_iff, ← le_lvl hr, Finset.mem_range]
    omega
  rw [Finset.sum_congr rfl fun k _ => if_congr (hk k) rfl rfl, ← Finset.sum_filter,
    Finset.filter_mem_eq_inter, Finset.inter_eq_right.mpr (Finset.range_mono (by omega)), Finset.sum_const, Finset.card_range,
    nsmul_one]
  have : ((lvl r + 127 : ℤ) : ℝ) = (((lvl r + 127).toNat : ℕ) : ℝ) := by
    rw [← Int.cast_natCast, Int.toNat_of_nonneg (by omega)]
  rw [this]; simp

theorem count_zero {r : EReal} (hr : r < (((2 : ℝ) ^ (-126 : ℤ) : ℝ) : EReal)) :
    (∑ k ∈ Finset.range 254, if (((2 : ℝ) ^ ((k : ℤ) - 126) : ℝ) : EReal) ≤ r then (1 : EReal) else 0) = 0 := by
  refine Finset.sum_eq_zero fun k _ => if_neg fun h => ?_
  refine absurd (lt_of_le_of_lt h hr) (not_lt.mpr ?_)
  rw [EReal.coe_le_coe_iff]
  exact zpow_le_zpow_right₀ (by norm_num) (by omega)

/-! ### The kernel's exponent, and the two agree -/

/-- The kernel's biased exponent of `r`: how many powers of two it reaches; 255 where `r` is too large. -/
def biasOf (r : EReal) : BitVec 32 :=
  Ideal.fptosi 32 (if r < Ideal.ofBits .f32 0x7F000000#32 then
    ∑ k ∈ Finset.range 254, if (((2 : ℝ) ^ ((k : ℤ) - 126) : ℝ) : EReal) ≤ r then (1 : EReal) else 0
    else Ideal.ofBits .f32 0x437F0000#32)

/-- The kernel's exponent: nothing outside the normal range. -/
def expOf (r : EReal) : BitVec 32 := if biasOf r = 0#32 ∨ biasOf r = 255#32 then 0#32 else biasOf r - 126#32

/-- The power of two with exponent `e`, by its bits. -/
def powOf (e : BitVec 32) : EReal := Ideal.ofBits .f32 ((e + 127#32) <<< 23)

theorem fptosi_nat (m : ℕ) (hm : m ≤ 1000) : Ideal.fptosi 32 (((m : ℝ) : ℝ) : EReal) = BitVec.ofNat 32 m := by
  rw [Ideal.fptosi, Ideal.toIntClamped_coe, if_pos (by positivity), Int.floor_natCast]
  rw [show max (-((2 ^ (32 - 1) : ℕ) : ℤ)) (min (((2 ^ (32 - 1) : ℕ) : ℤ) - 1) (m : ℤ)) = (m : ℤ) by norm_num; omega]
  exact BitVec.ofInt_natCast 32 m

theorem powOf_zero : powOf 0#32 = 1 := by
  show Ideal.ofBits .f32 ((0#32 + 127#32) <<< 23) = 1
  rw [show ((0#32 + 127#32) <<< 23 : BitVec 32) = 0x3F800000#32 from by decide, bits_one]

theorem exp2_one : Ideal.exp2 0 = 1 := by
  rw [show (0 : EReal) = ((0 : ℝ) : EReal) from rfl, Ideal.exp2_coe]
  simp

theorem exp2_int (n : ℤ) : Ideal.exp2 (((n : ℝ) : ℝ) : EReal) = (((2 : ℝ) ^ n : ℝ) : EReal) := by
  rw [Ideal.exp2_coe]
  congr 1
  exact Real.rpow_intCast 2 n

/-- Outside the normal range both exponents are nothing. -/
theorem exp_out {r : EReal}
    (h : ¬ (Ideal.ofBits .f32 0x00800000#32 ≤ r ∧ r < Ideal.ofBits .f32 0x7F000000#32)) : exR r = 0 ∧ expOf r = 0#32 := by
  refine ⟨if_neg h, ?_⟩
  rw [expOf, if_pos]
  rw [biasOf]
  by_cases hlt : r < Ideal.ofBits .f32 0x7F000000#32
  · left
    have : r < (((2 : ℝ) ^ (-126 : ℤ) : ℝ) : EReal) := by
      rw [← bits_min]; by_contra hc; exact h ⟨not_lt.mp hc, hlt⟩
    rw [if_pos hlt, count_zero this]
    simpa using fptosi_nat 0 (by norm_num)
  · right
    rw [if_neg hlt, bits_255]
    simpa using fptosi_nat 255 (by norm_num)

/-- Inside it they are the same whole number, between −125 and 127. -/
theorem exp_in {r : EReal} (h : Ideal.ofBits .f32 0x00800000#32 ≤ r ∧ r < Ideal.ofBits .f32 0x7F000000#32) :
    ∃ m : ℕ, 1 ≤ m ∧ m ≤ 253 ∧ exR r = ((((m : ℤ) - 126 : ℤ) : ℝ) : EReal) ∧ expOf r = BitVec.ofNat 32 m - 126#32 := by
  obtain ⟨h1, h2⟩ := id h
  rw [bits_min] at h1
  rw [bits_max] at h2
  induction r with
  | bot => exact absurd h1 (not_le.mpr (EReal.bot_lt_coe _))
  | top => exact absurd h2 (not_lt.mpr le_top)
  | coe r =>
    rw [EReal.coe_le_coe_iff] at h1
    rw [EReal.coe_lt_coe_iff] at h2
    have hr : 0 < r := lt_of_lt_of_le (by positivity) h1
    have l1 : -126 ≤ lvl r := (le_lvl hr _).mpr h1
    have l2 : lvl r ≤ 126 := by
      by_contra hc
      exact absurd ((le_lvl hr 127).mp (by omega)) (not_le.mpr h2)
    refine ⟨(lvl r + 127).toNat, by omega, by omega, ?_, ?_⟩
    · rw [exR, if_pos h, bits_two, Ideal.log_coe, Ideal.log_coe, if_neg (not_le.mpr hr), if_neg (by norm_num), Ideal.div,
        if_neg (by exact_mod_cast log2_pos.ne'), ← EReal.coe_inv, ← EReal.coe_mul, Int.toNat_of_nonneg (by omega)]
      show ((⌊Real.log r * (Real.log 2)⁻¹⌋ : ℝ) : EReal) + 1 = _
      rw [← div_eq_mul_inv]
      show (((lvl r : ℤ) : ℝ) : EReal) + ((1 : ℝ) : EReal) = _
      rw [← EReal.coe_add]
      congr 1
      push_cast; ring
    · have hb : biasOf (r : EReal) = BitVec.ofNat 32 (lvl r + 127).toNat := by
        rw [biasOf, if_pos h.2, count_eq hr l1 l2]
        have := fptosi_nat (lvl r + 127).toNat (by omega)
        rwa [show (((lvl r + 127).toNat : ℕ) : ℝ) = ((lvl r + 127 : ℤ) : ℝ) by
          rw [← Int.cast_natCast, Int.toNat_of_nonneg (by omega)]] at this
      rw [expOf, hb, if_neg]
      rintro (hc | hc) <;>
      · have := congrArg BitVec.toNat hc
        rw [BitVec.toNat_ofNat, Nat.mod_eq_of_lt (by omega)] at this
        simp at this
        omega

theorem shift_up (m : ℕ) (h1 : 1 ≤ m) (h2 : m ≤ 253) :
    ((BitVec.ofNat 32 m - 126#32 + 127#32) <<< 23 : BitVec 32) = BitVec.ofNat 32 ((m + 1) * 2 ^ 23) := by
  have : (BitVec.ofNat 32 m - 126#32 + 127#32 : BitVec 32) = BitVec.ofNat 32 (m + 1) := by
    apply BitVec.eq_of_toNat_eq; simp; omega
  rw [this]; apply BitVec.eq_of_toNat_eq
  rw [BitVec.toNat_shiftLeft, BitVec.toNat_ofNat, BitVec.toNat_ofNat, Nat.shiftLeft_eq]; omega

theorem shift_down (m : ℕ) (h1 : 1 ≤ m) (h2 : m ≤ 253) :
    ((0#32 - (BitVec.ofNat 32 m - 126#32) + 127#32) <<< 23 : BitVec 32) = BitVec.ofNat 32 ((253 - m) * 2 ^ 23) := by
  have : (0#32 - (BitVec.ofNat 32 m - 126#32) + 127#32 : BitVec 32) = BitVec.ofNat 32 (253 - m) := by
    apply BitVec.eq_of_toNat_eq; simp; omega
  rw [this]; apply BitVec.eq_of_toNat_eq
  rw [BitVec.toNat_shiftLeft, BitVec.toNat_ofNat, BitVec.toNat_ofNat, Nat.shiftLeft_eq]; omega

/-- The kernel's scale is the reference's. -/
theorem powOf_exp (r : EReal) : powOf (expOf r) = scaleR r := by
  by_cases h : Ideal.ofBits .f32 0x00800000#32 ≤ r ∧ r < Ideal.ofBits .f32 0x7F000000#32
  · obtain ⟨m, h1, h2, hR, hK⟩ := exp_in h
    rw [scaleR, hR, hK, exp2_int, powOf, shift_up m h1 h2, bits_pow2 (m + 1) (by omega) (by omega)]
    congr 2; push_cast; ring
  · obtain ⟨hR, hK⟩ := exp_out h
    rw [scaleR, hR, hK, powOf_zero, exp2_one]

/-- The kernel's reciprocal scale is the reference's. -/
theorem powOf_neg_exp (r : EReal) : powOf (0#32 - expOf r) = invR r := by
  by_cases h : Ideal.ofBits .f32 0x00800000#32 ≤ r ∧ r < Ideal.ofBits .f32 0x7F000000#32
  · obtain ⟨m, h1, h2, hR, hK⟩ := exp_in h
    rw [invR, hR, hK, bits_126, powOf, shift_down m h1 h2]
    simp only [EReal.coe_le_coe_iff]
    by_cases hm : m = 253
    · subst hm
      rw [if_neg (by norm_num)]
      exact bits_zero
    · rw [if_pos (by
          have : ((m : ℤ) - 126 : ℤ) ≤ 126 := by omega
          exact_mod_cast this), bits_pow2 (253 - m) (by omega) (by omega),
        show (0 : EReal) - ((((m : ℤ) - 126 : ℤ) : ℝ) : EReal) = (((126 - (m : ℤ) : ℤ) : ℝ) : EReal) by
          rw [show (0 : EReal) = ((0 : ℝ) : EReal) from rfl, ← EReal.coe_sub]; congr 1; push_cast; ring, exp2_int]
      congr 2; omega
  · obtain ⟨hR, hK⟩ := exp_out h
    rw [invR, hR, hK, bits_126, if_pos (EReal.coe_nonneg.mpr (by norm_num)), sub_zero, exp2_one]
    rw [BitVec.sub_self]; exact powOf_zero

end Cert.Proof.A

end
-- ==== Proof.RI.Result.lean ====
/-
  The reference's scales and codes at an index.
-/
module

public import proofs.«01_k».proof.Proof.RI.Value
public import proofs.«01_k».proof.Proof.A.Scale

@[expose] public section

noncomputable section

namespace Cert.ReferenceIdeal.B

open Idealize.ShloMosaic Cert.ReferenceIdeal Cert.ReferenceIdeal.Gen Cert.Proof.A
open Facts₀ Facts

variable (x : Vec Ideal S8x2048x8192 .fp8e4m3) (xs : Vec Ideal S8x2048x32 .f32) (k : Vec Ideal S8x2048x2048 .fp8e4m3)
  (ks : Vec Ideal S8x2048x8 .f32) (v : Vec Ideal S8x2048x2048 .fp8e4m3) (vs : Vec Ideal S8x2048x8 .f32)

/-- A choice on a decided comparison. -/
theorem select_ofBool (p : Prop) [Decidable p] (a b : EReal) : Scalar.select (BitVec.ofBool (decide p)) a b = if p then a else b := by
  by_cases h : p
  · rw [decide_eq_true h, if_pos h]; rfl
  · rw [decide_eq_false h, if_neg h]; rfl

theorem andi_ofBool (a b : Bool) : IntOp.andi (BitVec.ofBool a) (BitVec.ofBool b) = BitVec.ofBool (a && b) := by
  cases a <;> cases b <;> rfl

/-- The exponent, as the operations give it from the wanted scale. -/
theorem expo_eq (r : EReal) :
    Scalar.select (IntOp.andi (Ideal.cmp .oge r (Ideal.ofBits .f32 0x00800000#32)) (Ideal.cmp .olt r (Ideal.ofBits .f32 0x7F000000#32)))
      (Ideal.liftRound Int.floor (Ideal.div (Ideal.log r) (Ideal.log (Ideal.ofBits .f32 0x40000000#32))) + Ideal.ofBits .f32 0x3F800000#32)
      (Ideal.ofBits .f32 0x00000000#32) = exR r := by
  show Scalar.select (IntOp.andi (BitVec.ofBool (decide (Ideal.ofBits .f32 0x00800000#32 ≤ r)))
    (BitVec.ofBool (decide (r < Ideal.ofBits .f32 0x7F000000#32)))) _ _ = _
  rw [andi_ofBool, ← Bool.decide_and, select_ofBool, bits_one, bits_zero, exR]

/-- The exponents as the program computes them, from any array of largest magnitudes. -/
theorem expo_chain (M : FVec Ideal S8x2048 .f32) (j : S8x2048.Idx) :
    select (andi (cmpf .oge (mulf M (broadcast S8x2048 (Scalar.ofBits .f32 0x3B124925#32 : Ideal .f32)))
        (broadcast S8x2048 (Scalar.ofBits .f32 0x00800000#32 : Ideal .f32)))
      (cmpf .olt (mulf M (broadcast S8x2048 (Scalar.ofBits .f32 0x3B124925#32 : Ideal .f32)))
        (broadcast S8x2048 (Scalar.ofBits .f32 0x7F000000#32 : Ideal .f32))))
      (addf (floor (divf (log (mulf M (broadcast S8x2048 (Scalar.ofBits .f32 0x3B124925#32 : Ideal .f32))))
        (log (broadcast S8x2048 (Scalar.ofBits .f32 0x40000000#32 : Ideal .f32)))))
        (broadcast S8x2048 (Scalar.ofBits .f32 0x3F800000#32 : Ideal .f32)))
      (broadcast S8x2048 (Scalar.ofBits .f32 0x00000000#32 : Ideal .f32)) j = exR (M j * c448) := by
  rw [← expo_eq]
  rfl

/-- A code from an output and any array of exponents. -/
theorem code_chain (o : EReal) (E : FVec Ideal S8x2048 .f32) (j : S8x2048.Idx) :
    Scalar.select (cmpf .ole E (broadcast S8x2048 (Scalar.ofBits .f32 0x42FC0000#32 : Ideal .f32)) j)
      (o * Ideal.exp2 (subf (broadcast S8x2048 (Scalar.ofBits .f32 0x00000000#32 : Ideal .f32)) E j)) 0
      = o * (if E j ≤ Ideal.ofBits .f32 0x42FC0000#32 then Ideal.exp2 (0 - E j) else 0) := by
  show Scalar.select (BitVec.ofBool (decide (E j ≤ Ideal.ofBits .f32 0x42FC0000#32)))
    (_ * Ideal.exp2 (Ideal.ofBits .f32 0x00000000#32 - E j)) 0 = _
  rw [select_ofBool, bits_zero]
  split
  · rfl
  · rw [mul_zero]

/-- A power of two of any array of exponents. -/
theorem exp2_at (E : FVec Ideal S8x2048 .f32) (j : S8x2048.Idx) : exp2 (F := Ideal) E j = Ideal.exp2 (E j) := rfl

/-- A magnitude. -/
theorem absf_at {s : Shape} (o : FVec Ideal s .f32) (j : s.Idx) : absf o j = mag (o j) := rfl

theorem expo_at (v : FVec Ideal S64x2048x256 .bf16) (vs : FVec Ideal S64x2048 .f32) (z : FVec Ideal S64x4x2048x2048 .f32)
    (b : Fin 8) (i : Fin 2048) (f : ℕ → EReal) (hf : ∀ c : Fin 8192, mag (k0_pay6 (F := Ideal) v vs z (ix3 b i c)) = f c) :
    k0_pay7 (F := Ideal) v vs z (ix2 b i) = exR ((Finset.range 8192).sup f * c448) := by
  unfold k0_pay7
  generalize k0_pay6 (F := Ideal) v vs z = o at hf ⊢
  refine (expo_chain _ _).trans ?_
  rw [max_cols (a := 8) (b := 2048) (n := 8192) (absf o) Gen.reduces_S8x2048x8192_S8x2048 (.inl rfl) rfl b i f
    fun c => (absf_at _ _).trans (hf c)]

theorem amax_at (b : Fin 8) (i : Fin 2048) :
    k0_pay7 (F := Ideal) (k0_pay3 v) (k0_pay4 vs) (k0_pay5 x k xs ks) (ix2 b i) = exR (amax (inp x xs k ks v vs) b i * c448) :=
  by
  rw [amax]
  exact expo_at _ _ _ b i _ fun c => congrArg mag (outs_at x xs k ks v vs b i c)

theorem scale_at (b : Fin 8) (i : Fin 2048) :
    k0_pay2 (F := Ideal) (k0_pay8 (k0_pay3 v) (k0_pay4 vs) (k0_pay5 x k xs ks)) (ix3 b 0 i) = scaleAt (inp x xs k ks v vs) b i := by
  have h : ∀ e : FVec Ideal S8x2048 .f32, k0_pay2 (F := Ideal) e (ix3 b 0 i) = e (ix2 b i) := by
    intro e; unfold k0_pay2; pointwise
  rw [h, scaleAt, scaleR, ← amax_at x xs k ks v vs]
  unfold k0_pay8
  exact exp2_at _ _

theorem code_of (o : FVec Ideal S8x2048x8192 .f32) (m : IVec S8x2048 1) (e : FVec Ideal S8x2048 .f32) (b : Fin 8) (i : Fin 2048)
    (c : Fin 8192) : k0_pay1 (F := Ideal) o m e (ix3 b i c)
      = clip (Scalar.select (m (ix2 b i)) (o (ix3 b i c) * Ideal.exp2 (e (ix2 b i))) 0) := by
  unfold k0_pay1
  pointwise
  rfl

theorem code_at (b : Fin 8) (i : Fin 2048) (c : Fin 8192) :
    k0_pay1 (F := Ideal) (outs x xs k ks v vs) (k0_pay9 (k0_pay3 v) (k0_pay4 vs) (k0_pay5 x k xs ks))
      (k0_pay10 (k0_pay3 v) (k0_pay4 vs) (k0_pay5 x k xs ks)) (ix3 b i c) = codeAt (inp x xs k ks v vs) b i c := by
  rw [code_of, outs_at x xs k ks v vs b i c, codeAt, invR, ← amax_at x xs k ks v vs]
  refine congrArg clip ?_
  unfold k0_pay9 k0_pay10
  exact code_chain _ _ _

end Cert.ReferenceIdeal.B

end
-- ==== Proof.RI.Run.lean ====
/-
  The reference's run with its results named: its one grid point's blocks are the whole arrays, and what it writes is the
  codes and the scales.
-/
module

public import proofs.«01_k».proof.Proof.RI.Result
public import proofs.«01_k».proof.Proof.Gen.ReferenceIdeal.Frame

@[expose] public section

noncomputable section

namespace Cert.ReferenceIdeal.B

open Idealize.ShloMosaic Idealize.ShloMosaic.TcCoe Idealize.SL.Sem Cert.ReferenceIdeal Cert.ReferenceIdeal.Gen Cert.Proof.A
open Facts₀ Facts

variable (m : (ℓ : Loc nD τ sig) → Buf (Elt Ideal) ℓ) (ρ : Dev nD → PrngReg)

/-- The offset of a whole rectangle. -/
theorem hz : (![0, 0, 0] : Fin 3 → Nat) = fun _ => 0 := funext fun a => by fin_cases a <;> rfl

section results

variable (x : Vec Ideal S8x2048x8192 .fp8e4m3) (xs : Vec Ideal S8x2048x32 .f32) (k : Vec Ideal S8x2048x2048 .fp8e4m3)
  (ks : Vec Ideal S8x2048x8 .f32) (v : Vec Ideal S8x2048x2048 .fp8e4m3) (vs : Vec Ideal S8x2048x8 .f32)

theorem ld_v : k0_pay11 (F := Ideal) x xs k ks v vs = k0_pay3 v := by
  unfold k0_pay11; rw [View.ld_unit_zero hz]

theorem ld_vs : k0_pay12 (F := Ideal) x xs k ks v vs = k0_pay4 vs := by
  unfold k0_pay12; rw [View.ld_unit_zero hz]

theorem ld_xk : k0_pay13 (F := Ideal) x xs k ks v vs = k0_pay5 x k xs ks := by
  unfold k0_pay13; rw [View.ld_unit_zero hz, View.ld_unit_zero hz, View.ld_unit_zero hz, View.ld_unit_zero hz]

/-- The array of codes. -/
def codesAll : Vec Ideal S8x2048x8192 .fp8e4m3 := fun i => codeAt (inp x xs k ks v vs) (i 0).val (i 1).val (i 2).val

/-- The array of scales. -/
def scalesAll : Vec Ideal S8x1x2048 .f32 := fun i => scaleAt (inp x xs k ks v vs) (i 0).val (i 2).val

theorem out6_eq : out0_6 (F := Ideal) x xs k ks v vs = codesAll x xs k ks v vs := by
  unfold out0_6
  rw [View.canon_unit_zero hz, ld_v, ld_vs, ld_xk]
  funext i
  have hi : i = ix3 (i 0) (i 1) (i 2) := by funext a; fin_cases a <;> rfl
  exact (congrArg _ hi).trans (code_at x xs k ks v vs (i 0) (i 1) (i 2))

theorem out7_eq : out0_7 (F := Ideal) x xs k ks v vs = scalesAll x xs k ks v vs := by
  unfold out0_7
  rw [View.canon_unit_zero hz, ld_v, ld_vs, ld_xk]
  funext i
  have hi : i = ix3 (i 0) 0 (i 2) := by
    funext a
    fin_cases a
    · rfl
    · exact Fin.ext (Nat.lt_one_iff.mp (i 1).isLt)
    · rfl
  exact (congrArg _ hi).trans (scale_at x xs k ks v vs (i 0) (i 2))

end results

theorem emb0 (t : Fin cfg0.N) (j : S8x2048x8192.Idx) : ((cfg0.win 0).blk t).view.emb j = j := by
  obtain ⟨e0, e1, e2⟩ := (by decide +kernel : ∀ t : Fin grid0.N,
    win0_0.index t (0 : Fin 3) = 0 ∧ win0_0.index t (1 : Fin 3) = 0 ∧ win0_0.index t (2 : Fin 3) = 0) t
  funext a; apply Fin.ext
  match a with
  | ⟨0, _⟩ => show win0_0.index t (0 : Fin 3) * 8 + 1 * (j 0).val = (j 0).val; omega
  | ⟨1, _⟩ => show win0_0.index t (1 : Fin 3) * 2048 + 1 * (j 1).val = (j 1).val; omega
  | ⟨2, _⟩ => show win0_0.index t (2 : Fin 3) * 8192 + 1 * (j 2).val = (j 2).val; omega

theorem iblk0_eq (c : Dev nD) (t : Fin cfg0.N) : iblk m c 0 t = V m c main_arg0 := by
  funext j; show V m c main_arg0 (((cfg0.win 0).blk t).view.emb j) = V m c main_arg0 j; rw [emb0]

theorem emb1 (t : Fin cfg0.N) (j : S8x2048x32.Idx) : ((cfg0.win 1).blk t).view.emb j = j := by
  obtain ⟨e0, e1, e2⟩ := (by decide +kernel : ∀ t : Fin grid0.N,
    win0_1.index t (0 : Fin 3) = 0 ∧ win0_1.index t (1 : Fin 3) = 0 ∧ win0_1.index t (2 : Fin 3) = 0) t
  funext a; apply Fin.ext
  match a with
  | ⟨0, _⟩ => show win0_1.index t (0 : Fin 3) * 8 + 1 * (j 0).val = (j 0).val; omega
  | ⟨1, _⟩ => show win0_1.index t (1 : Fin 3) * 2048 + 1 * (j 1).val = (j 1).val; omega
  | ⟨2, _⟩ => show win0_1.index t (2 : Fin 3) * 32 + 1 * (j 2).val = (j 2).val; omega

theorem iblk1_eq (c : Dev nD) (t : Fin cfg0.N) : iblk m c 1 t = V m c main_arg1 := by
  funext j; show V m c main_arg1 (((cfg0.win 1).blk t).view.emb j) = V m c main_arg1 j; rw [emb1]

theorem emb2 (t : Fin cfg0.N) (j : S8x2048x2048.Idx) : ((cfg0.win 2).blk t).view.emb j = j := by
  obtain ⟨e0, e1, e2⟩ := (by decide +kernel : ∀ t : Fin grid0.N,
    win0_2.index t (0 : Fin 3) = 0 ∧ win0_2.index t (1 : Fin 3) = 0 ∧ win0_2.index t (2 : Fin 3) = 0) t
  funext a; apply Fin.ext
  match a with
  | ⟨0, _⟩ => show win0_2.index t (0 : Fin 3) * 8 + 1 * (j 0).val = (j 0).val; omega
  | ⟨1, _⟩ => show win0_2.index t (1 : Fin 3) * 2048 + 1 * (j 1).val = (j 1).val; omega
  | ⟨2, _⟩ => show win0_2.index t (2 : Fin 3) * 2048 + 1 * (j 2).val = (j 2).val; omega

theorem iblk2_eq (c : Dev nD) (t : Fin cfg0.N) : iblk m c 2 t = V m c main_arg2 := by
  funext j; show V m c main_arg2 (((cfg0.win 2).blk t).view.emb j) = V m c main_arg2 j; rw [emb2]

theorem emb3 (t : Fin cfg0.N) (j : S8x2048x8.Idx) : ((cfg0.win 3).blk t).view.emb j = j := by
  obtain ⟨e0, e1, e2⟩ := (by decide +kernel : ∀ t : Fin grid0.N,
    win0_3.index t (0 : Fin 3) = 0 ∧ win0_3.index t (1 : Fin 3) = 0 ∧ win0_3.index t (2 : Fin 3) = 0) t
  funext a; apply Fin.ext
  match a with
  | ⟨0, _⟩ => show win0_3.index t (0 : Fin 3) * 8 + 1 * (j 0).val = (j 0).val; omega
  | ⟨1, _⟩ => show win0_3.index t (1 : Fin 3) * 2048 + 1 * (j 1).val = (j 1).val; omega
  | ⟨2, _⟩ => show win0_3.index t (2 : Fin 3) * 8 + 1 * (j 2).val = (j 2).val; omega

theorem iblk3_eq (c : Dev nD) (t : Fin cfg0.N) : iblk m c 3 t = V m c main_arg3 := by
  funext j; show V m c main_arg3 (((cfg0.win 3).blk t).view.emb j) = V m c main_arg3 j; rw [emb3]

theorem emb4 (t : Fin cfg0.N) (j : S8x2048x2048.Idx) : ((cfg0.win 4).blk t).view.emb j = j := by
  obtain ⟨e0, e1, e2⟩ := (by decide +kernel : ∀ t : Fin grid0.N,
    win0_4.index t (0 : Fin 3) = 0 ∧ win0_4.index t (1 : Fin 3) = 0 ∧ win0_4.index t (2 : Fin 3) = 0) t
  funext a; apply Fin.ext
  match a with
  | ⟨0, _⟩ => show win0_4.index t (0 : Fin 3) * 8 + 1 * (j 0).val = (j 0).val; omega
  | ⟨1, _⟩ => show win0_4.index t (1 : Fin 3) * 2048 + 1 * (j 1).val = (j 1).val; omega
  | ⟨2, _⟩ => show win0_4.index t (2 : Fin 3) * 2048 + 1 * (j 2).val = (j 2).val; omega

theorem iblk4_eq (c : Dev nD) (t : Fin cfg0.N) : iblk m c 4 t = V m c main_arg4 := by
  funext j; show V m c main_arg4 (((cfg0.win 4).blk t).view.emb j) = V m c main_arg4 j; rw [emb4]

theorem emb5 (t : Fin cfg0.N) (j : S8x2048x8.Idx) : ((cfg0.win 5).blk t).view.emb j = j := by
  obtain ⟨e0, e1, e2⟩ := (by decide +kernel : ∀ t : Fin grid0.N,
    win0_5.index t (0 : Fin 3) = 0 ∧ win0_5.index t (1 : Fin 3) = 0 ∧ win0_5.index t (2 : Fin 3) = 0) t
  funext a; apply Fin.ext
  match a with
  | ⟨0, _⟩ => show win0_5.index t (0 : Fin 3) * 8 + 1 * (j 0).val = (j 0).val; omega
  | ⟨1, _⟩ => show win0_5.index t (1 : Fin 3) * 2048 + 1 * (j 1).val = (j 1).val; omega
  | ⟨2, _⟩ => show win0_5.index t (2 : Fin 3) * 8 + 1 * (j 2).val = (j 2).val; omega

theorem iblk5_eq (c : Dev nD) (t : Fin cfg0.N) : iblk m c 5 t = V m c main_arg5 := by
  funext j; show V m c main_arg5 (((cfg0.win 5).blk t).view.emb j) = V m c main_arg5 j; rw [emb5]

theorem emb6 (t : Fin cfg0.N) (j : S8x2048x8192.Idx) : ((cfg0.win 6).blk t).view.emb j = j := by
  obtain ⟨e0, e1, e2⟩ := (by decide +kernel : ∀ t : Fin grid0.N,
    win0_6.index t (0 : Fin 3) = 0 ∧ win0_6.index t (1 : Fin 3) = 0 ∧ win0_6.index t (2 : Fin 3) = 0) t
  funext a; apply Fin.ext
  match a with
  | ⟨0, _⟩ => show win0_6.index t (0 : Fin 3) * 8 + 1 * (j 0).val = (j 0).val; omega
  | ⟨1, _⟩ => show win0_6.index t (1 : Fin 3) * 2048 + 1 * (j 1).val = (j 1).val; omega
  | ⟨2, _⟩ => show win0_6.index t (2 : Fin 3) * 8192 + 1 * (j 2).val = (j 2).val; omega

theorem emb7 (t : Fin cfg0.N) (j : S8x1x2048.Idx) : ((cfg0.win 7).blk t).view.emb j = j := by
  obtain ⟨e0, e1, e2⟩ := (by decide +kernel : ∀ t : Fin grid0.N,
    win0_7.index t (0 : Fin 3) = 0 ∧ win0_7.index t (1 : Fin 3) = 0 ∧ win0_7.index t (2 : Fin 3) = 0) t
  funext a; apply Fin.ext
  match a with
  | ⟨0, _⟩ => show win0_7.index t (0 : Fin 3) * 8 + 1 * (j 0).val = (j 0).val; omega
  | ⟨1, _⟩ => show win0_7.index t (1 : Fin 3) * 1 + 1 * (j 1).val = (j 1).val; omega
  | ⟨2, _⟩ => show win0_7.index t (2 : Fin 3) * 2048 + 1 * (j 2).val = (j 2).val; omega

theorem final6 (c : Dev nD) : (dats m 0 c).arrAt 6 cfg0.N = codesAll (V m c main_arg0) (V m c main_arg1) (V m c main_arg2) (V m c main_arg3) (V m c main_arg4) (V m c main_arg5) := by
  refine (dats m 0 c).arrAt_eq_of_cover 6 (codesAll (V m c main_arg0) (V m c main_arg1) (V m c main_arg2) (V m c main_arg3) (V m c main_arg4) (V m c main_arg5)) (fun t _ => ?_) fun i =>
    ⟨(⟨0, by decide⟩ : Fin cfg0.N), flush0_6 _, by have h := ((cfg0.win 6).blk (⟨0, by decide⟩ : Fin cfg0.N)).view.emb_mem_set i; rwa [emb6] at h⟩
  show (cfg0.win 6).cut (grid0.coords t) ((dats m 0 c).after 6 t) = _
  rw [after0_6, iblk0_eq, iblk1_eq, iblk2_eq, iblk3_eq, iblk4_eq, iblk5_eq, out6_eq]
  generalize codesAll (V m c main_arg0) (V m c main_arg1) (V m c main_arg2) (V m c main_arg3) (V m c main_arg4) (V m c main_arg5) = X
  funext j
  show X j = X (((cfg0.win 6).blk t).view.emb j)
  rw [emb6]

theorem final7 (c : Dev nD) : (dats m 0 c).arrAt 7 cfg0.N = scalesAll (V m c main_arg0) (V m c main_arg1) (V m c main_arg2) (V m c main_arg3) (V m c main_arg4) (V m c main_arg5) := by
  refine (dats m 0 c).arrAt_eq_of_cover 7 (scalesAll (V m c main_arg0) (V m c main_arg1) (V m c main_arg2) (V m c main_arg3) (V m c main_arg4) (V m c main_arg5)) (fun t _ => ?_) fun i =>
    ⟨(⟨0, by decide⟩ : Fin cfg0.N), flush0_7 _, by have h := ((cfg0.win 7).blk (⟨0, by decide⟩ : Fin cfg0.N)).view.emb_mem_set i; rwa [emb7] at h⟩
  show (cfg0.win 7).cut (grid0.coords t) ((dats m 0 c).after 7 t) = _
  rw [after0_7, iblk0_eq, iblk1_eq, iblk2_eq, iblk3_eq, iblk4_eq, iblk5_eq, out7_eq]
  generalize scalesAll (V m c main_arg0) (V m c main_arg1) (V m c main_arg2) (V m c main_arg3) (V m c main_arg4) (V m c main_arg5) = X
  funext j
  show X j = X (((cfg0.win 7).blk t).view.emb j)
  rw [emb7]

/-- The reference's run: its results, the arguments as launched. -/
theorem value_run : θ_run (defs (F := Ideal)) (onTc (τ := τ) (main (F := Ideal))) ⟨m, fun _ => 0, ρ⟩ (fun r => ∀ c : Dev nD,
      r.2.mem ((c.tc : Thread nD τ).loc main_v0_0) = codesAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v0_1) = scalesAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.ReferenceIdeal.B

end
-- ==== Proof.KV.Arr.lean ====
/-
  Reads and writes of a rectangle of a rank-three array, at natural coordinates.
-/
module

public import proofs.«01_k».proof.Proof.A.Reduce
public import proofs.«01_k».proof.Proof.H.State

@[expose] public section

noncomputable section

namespace Cert.Proof.A

open Idealize.ShloMosaic Cert.Proof.H

theorem nat3_of {A B C : ℕ} (X : (Sh3 A B C).Idx → EReal) {a b c : ℕ} (ha : a < A) (hb : b < B) (hc : c < C) :
    nat3 X a b c = X (ix3 ⟨a, ha⟩ ⟨b, hb⟩ ⟨c, hc⟩) := dif_pos ⟨ha, hb, hc⟩

/-- A load through a rectangle reads the array at the offset coordinates. -/
theorem rd_at {A B C a b c : ℕ} (off : Fin 3 → ℕ) (inb) (X : (Sh3 A B C).Idx → EReal) {o₀ o₁ o₂ : ℕ} (h : off = ![o₀, o₁, o₂])
    (i : Fin a) (j : Fin b) (k : Fin c) :
    rd (Rect.unit (s := Sh3 A B C) off (Sh3 a b c).size inb) X (ix3 i j k) = nat3 X (o₀ + i) (o₁ + j) (o₂ + k) := by
  subst h
  refine at_nat3' X _ _ _ _ ?_ ?_ ?_
  · show o₀ + 1 * i.val = _; omega
  · show o₁ + 1 * j.val = _; omega
  · show o₂ + 1 * k.val = _; omega

theorem nat3_rd {A B C a b c : ℕ} (off : Fin 3 → ℕ) (inb) (X : (Sh3 A B C).Idx → EReal) {o₀ o₁ o₂ : ℕ} (h : off = ![o₀, o₁, o₂])
    {i j k : ℕ} (hi : i < a) (hj : j < b) (hk : k < c) :
    nat3 (A := a) (B := b) (C := c) (rd (Rect.unit (s := Sh3 A B C) off (Sh3 a b c).size inb) X) i j k = nat3 X (o₀ + i) (o₁ + j) (o₂ + k) :=
  (nat3_of _ hi hj hk).trans (rd_at off inb X h ⟨i, hi⟩ ⟨j, hj⟩ ⟨k, hk⟩)

/-- An array with a rectangle overwritten. -/
theorem nat3_put {A B C a b c : ℕ} (off : Fin 3 → ℕ) (inb) (w : (Sh3 a b c).Idx → EReal) (X : (Sh3 A B C).Idx → EReal)
    {o₀ o₁ o₂ : ℕ} (h : off = ![o₀, o₁, o₂]) (i j k : ℕ) :
    nat3 (put (Rect.unit (s := Sh3 A B C) off (Sh3 a b c).size inb) w X) i j k =
      if (o₀ ≤ i ∧ i < o₀ + a) ∧ (o₁ ≤ j ∧ j < o₁ + b) ∧ (o₂ ≤ k ∧ k < o₂ + c) then nat3 w (i - o₀) (j - o₁) (k - o₂)
      else nat3 X i j k := by
  subst h
  have b0 : o₀ + a ≤ A := inb 0
  have b1 : o₁ + b ≤ B := inb 1
  have b2 : o₂ + c ≤ C := inb 2
  split
  · rename_i h
    obtain ⟨⟨p0, q0⟩, ⟨p1, q1⟩, p2, q2⟩ := h
    rw [nat3_of _ (by omega : i < A) (by omega : j < B) (by omega : k < C), nat3_of w (by omega) (by omega) (by omega)]
    refine Eq.trans (congrArg _ ?_) (put_emb (Rect.unit (s := Sh3 A B C) ![o₀, o₁, o₂] (Sh3 a b c).size inb) w X _)
    funext x
    refine Fin.ext ?_
    fin_cases x
    · show i = o₀ + 1 * (i - o₀); omega
    · show j = o₁ + 1 * (j - o₁); omega
    · show k = o₂ + 1 * (k - o₂); omega
  · rename_i h
    by_cases hin : i < A ∧ j < B ∧ k < C
    · rw [nat3, nat3, dif_pos hin, dif_pos hin]
      refine put_of_not _ _ _ _ ?_
      rintro ⟨y, hy⟩
      refine h ?_
      have e0 : o₀ + 1 * (y 0).val = i := congrArg Fin.val (congrFun hy 0)
      have e1 : o₁ + 1 * (y 1).val = j := congrArg Fin.val (congrFun hy 1)
      have e2 : o₂ + 1 * (y 2).val = k := congrArg Fin.val (congrFun hy 2)
      have l0 : (y 0).val < a := (y 0).isLt
      have l1 : (y 1).val < b := (y 1).isLt
      have l2 : (y 2).val < c := (y 2).isLt
      omega
    · rw [nat3, nat3, dif_neg hin, dif_neg hin]

/-- The same of rank two, the rectangle the whole array. -/
theorem rd_whole2 {A B : ℕ} (inb) (X : (Sh2 A B).Idx → EReal) (i : Fin A) (j : Fin B) :
    rd (Rect.unit (s := Sh2 A B) ![0, 0] (Sh2 A B).size inb) X (ix2 i j) = X (ix2 i j) := by
  refine congrArg X ?_
  funext x
  refine Fin.ext ?_
  fin_cases x
  · show 0 + 1 * i.val = i.val; omega
  · show 0 + 1 * j.val = j.val; omega

theorem put_whole2 {A B : ℕ} (inb) (w X : (Sh2 A B).Idx → EReal) (i : Fin A) (j : Fin B) :
    put (Rect.unit (s := Sh2 A B) ![0, 0] (Sh2 A B).size inb) w X (ix2 i j) = w (ix2 i j) := by
  refine Eq.trans (congrArg _ ?_) (put_emb (Rect.unit (s := Sh2 A B) ![0, 0] (Sh2 A B).size inb) w X _)
  funext x
  refine Fin.ext ?_
  fin_cases x
  · show i.val = 0 + 1 * i.val; omega
  · show j.val = 0 + 1 * j.val; omega

end Cert.Proof.A

end
-- ==== Proof.KV.Staged.lean ====
/-
  The kernel's staged vectors at an index.
-/
module

public import proofs.«01_k».proof.Proof.A.Reduce

@[expose] public section

noncomputable section

namespace Cert.Proof.A

open Idealize.ShloMosaic Cert.Proof.H

theorem stagedA_at (κ : Ideal .f32) (xs : FVec Ideal (Sh3 1 256 32) .f32) (h : Fin 32) (r : Fin 256) :
    stagedA (F := Ideal) κ xs (ix3 h 0 r) = xs (ix3 0 r h) * κ := by
  unfold stagedA
  pointwise

theorem stagedK_at (k : FVec Ideal (Sh3 1 256 256) .fp8e4m3) (r d : Fin 256) :
    stagedK (F := Ideal) k (ix3 0 r d) = k (ix3 0 r d) := by
  unfold stagedK
  pointwise

theorem stagedKs_at (ks : FVec Ideal (Sh3 1 256 1) .f32) (r : Fin 256) (l : Fin 128) :
    stagedKs (F := Ideal) ks (ix3 0 r l) = ks (ix3 0 r 0) := by
  unfold stagedKs
  pointwise

theorem stagedV_at (v : FVec Ideal (Sh3 1 256 256) .fp8e4m3) (vs : FVec Ideal (Sh3 1 256 1) .f32) (d r : Fin 256) :
    stagedV (F := Ideal) v vs (ix3 0 d r) = v (ix3 0 r d) * vs (ix3 0 r 0) := by
  unfold stagedV
  pointwise

theorem maxInit_at (g : Fin 8) (r : Fin 256) : maxInit (F := Ideal) (ix2 g r) = Ideal.ofBits .f32 0x00000000#32 := by
  unfold maxInit
  pointwise

end Cert.Proof.A

end
-- ==== Proof.KV.Stage.lean ====
/-
  Staging: what the scratch arrays hold of the earlier and the present blocks.
-/
module

public import proofs.«01_k».proof.Proof.KV.Arr
public import proofs.«01_k».proof.Proof.KV.Staged
public import proofs.«01_k».proof.Proof.A.Scale

@[expose] public section

noncomputable section

namespace Cert.Proof.A

open Idealize.ShloMosaic Cert.Proof.H

/-- The scale folded into the query scales: one sixteenth over the natural logarithm of two. -/
abbrev kapI : Ideal .f32 := (((Real.log 2)⁻¹ * 16⁻¹ : ℝ) : EReal)

theorem kapI_eq : (kapI : EReal) = kap2 * c16 := by
  have : c16 = ((16⁻¹ : ℝ) : EReal) := by
    rw [c16, show (0x3D800000#32 : BitVec 32) = BitVec.ofNat 32 (123 * 2 ^ 23) from rfl, bits_pow2 123 (by norm_num) (by norm_num)]
    norm_num
  rw [this, kap2, ← EReal.coe_mul]

variable (I : In) (b : ℕ)

/-- The present block is rows `hd .. hd + 256` of the inputs. -/
structure Blk (hd : ℕ) (S : St Ideal) : Prop where
  x : ∀ r c, r < 256 → c < 8192 → nat3 S.x 0 r c = I.x b (hd + r) c
  xs : ∀ r c, r < 256 → c < 32 → nat3 S.xs 0 r c = I.xs b (hd + r) c
  k : ∀ r c, r < 256 → c < 2048 → nat3 S.k 0 r c = I.k b (hd + r) c
  ks : ∀ r c, r < 256 → c < 8 → nat3 S.ks 0 r c = I.ks b (hd + r) c
  v : ∀ r c, r < 256 → c < 2048 → nat3 S.v 0 r c = I.v b (hd + r) c
  vs : ∀ r c, r < 256 → c < 8 → nat3 S.vs 0 r c = I.vs b (hd + r) c

/-- The scratch arrays hold the keys, key scales and scaled values of the first `n h` positions of each head. -/
structure HeldTo (n : ℕ → ℕ) (kAll : (Sh3 8 2048 256).Idx → EReal) (ksAll : (Sh3 8 2048 128).Idx → EReal)
    (vtAll : (Sh3 8 256 2048).Idx → EReal) : Prop where
  k : ∀ h j d, h < 8 → j < n h → d < 256 → nat3 kAll h j d = I.k b j (256 * h + d)
  ks : ∀ h j l, h < 8 → j < n h → l < 128 → nat3 ksAll h j l = I.ks b j h
  vt : ∀ h d j, h < 8 → d < 256 → j < n h → nat3 vtAll h d j = I.v b j (256 * h + d) * I.vs b j h

/-- The same for all heads at once. -/
abbrev Held (n : ℕ) := HeldTo I b fun _ => n

variable {I b}

theorem HeldTo.mono {n m : ℕ → ℕ} {kA ksA vA} (h : HeldTo I b n kA ksA vA) (hm : ∀ i, i < 8 → m i ≤ n i) : HeldTo I b m kA ksA vA :=
  ⟨fun i j d hi hj => h.k i j d hi (hj.trans_le (hm i hi)), fun i j l hi hj => h.ks i j l hi (hj.trans_le (hm i hi)),
    fun i d j hi hd hj => h.vt i d j hi hd (hj.trans_le (hm i hi))⟩

theorem headSt_blk {hd row h : ℕ} {hr : row + 256 ≤ 2048} {hh : h + 1 ≤ 8} {S : St Ideal} (B : Blk I b hd S) :
    Blk I b hd (headSt row h hr hh S) := by
  constructor <;> dsimp only [headSt]
  exacts [B.x, B.xs, B.k, B.ks, B.v, B.vs]

theorem headSt_a {row h : ℕ} {hr : row + 256 ≤ 2048} {hh : h + 1 ≤ 8} {S : St Ideal} : (headSt row h hr hh S).a = S.a := by
  dsimp only [headSt]

/-- Staging one head takes its held positions a block further. -/
theorem headSt_held {row m : ℕ} (hr : row + 256 ≤ 2048) (hh : m + 1 ≤ 8) {S : St Ideal} (B : Blk I b row S)
    (H : HeldTo I b (fun h => if h < m then row + 256 else row) S.kAll S.ksAll S.vtAll) :
    HeldTo I b (fun h => if h < m + 1 then row + 256 else row) (headSt row m hr hh S).kAll (headSt row m hr hh S).ksAll
      (headSt row m hr hh S).vtAll := by
  dsimp only [headSt]
  refine ⟨fun h j d h8 hj hd => ?_, fun h j l h8 hj hl => ?_, fun h d j h8 hd hj => ?_⟩
  · refine (nat3_put _ _ (stagedK (F := Ideal) (rd (headRect m hh) S.k)) S.kAll rfl h j d).trans ?_
    split
    · rename_i hc
      obtain ⟨⟨c0, c1⟩, ⟨c2, c3⟩, -⟩ := hc
      obtain rfl : h = m := by omega
      rw [nat3_of _ (by omega) (by omega) (by omega)]
      rw [show (⟨h - h, by omega⟩ : Fin 1) = 0 from Fin.ext (by simp), stagedK_at, rd_at _ _ S.k rfl]
      refine (B.k _ _ (by dsimp; omega) (by dsimp; omega)).trans ?_
      congr 1 <;> dsimp <;> omega
    · rename_i hc
      refine H.k h j d h8 ?_ hd
      show j < if h < m then row + 256 else row
      split at hj <;> split <;> omega
  · refine (nat3_put _ _ (stagedKs (F := Ideal) (rd (headCol m hh) S.ks)) S.ksAll rfl h j l).trans ?_
    split
    · rename_i hc
      obtain ⟨⟨c0, c1⟩, ⟨c2, c3⟩, -⟩ := hc
      obtain rfl : h = m := by omega
      rw [nat3_of _ (by omega) (by omega) (by omega)]
      rw [show (⟨h - h, by omega⟩ : Fin 1) = 0 from Fin.ext (by simp), stagedKs_at, rd_at _ _ S.ks rfl]
      refine (B.ks _ _ (by dsimp; omega) (by dsimp; omega)).trans ?_
      congr 1 <;> dsimp <;> omega
    · rename_i hc
      refine H.ks h j l h8 ?_ hl
      show j < if h < m then row + 256 else row
      split at hj <;> split <;> omega
  · refine (nat3_put _ _ (stagedV (F := Ideal) (rd (headRect m hh) S.v) (rd (headCol m hh) S.vs)) S.vtAll rfl h d j).trans ?_
    split
    · rename_i hc
      obtain ⟨⟨c0, c1⟩, -, c2, c3⟩ := hc
      obtain rfl : h = m := by omega
      rw [nat3_of _ (by omega) (by omega) (by omega)]
      rw [show (⟨h - h, by omega⟩ : Fin 1) = 0 from Fin.ext (by simp), stagedV_at, rd_at _ _ S.v rfl, rd_at _ _ S.vs rfl]
      refine (congr (congrArg HMul.hMul (B.v _ _ (by dsimp; omega) (by dsimp; omega)))
        (B.vs _ _ (by dsimp; omega) (by dsimp; omega))).trans ?_
      congr 2 <;> dsimp <;> omega
    · rename_i hc
      refine H.vt h d j h8 hd ?_
      show j < if h < m then row + 256 else row
      split at hj <;> split <;> omega

/-- The state once a block is staged. -/
structure Staged (I : In) (b hd : ℕ) (S : St Ideal) : Prop where
  x : ∀ r c, r < 256 → c < 8192 → nat3 S.x 0 r c = I.x b (hd + r) c
  held : Held I b (hd + 256) S.kAll S.ksAll S.vtAll
  a : ∀ h r, h < 32 → r < 256 → nat3 S.a h 0 r = I.xs b (hd + r) h * kapI

theorem stageSt_staged {hd : ℕ} (hr : hd + 256 ≤ 2048) {S : St Ideal} (B : Blk I b hd S) (H : Held I b hd S.kAll S.ksAll S.vtAll) :
    Staged I b hd (stageSt kapI hd hr S) ∧ ∀ (g : Fin 8) (r : Fin 256), (stageSt kapI hd hr S).am (ix2 g r) = 0 := by
  have B0 : Blk I b hd (scalesSt kapI S) := by
    constructor <;> dsimp only [scalesSt]
    exacts [B.x, B.xs, B.k, B.ks, B.v, B.vs]
  have H0 : HeldTo I b (fun h => if h < 0 then hd + 256 else hd) (scalesSt kapI S).kAll (scalesSt kapI S).ksAll (scalesSt kapI S).vtAll :=
    H.mono fun i _ => by simp
  have A0 : ∀ h r, h < 32 → r < 256 → nat3 (scalesSt kapI S).a h 0 r = I.xs b (hd + r) h * kapI := by
    intro h r hh hr
    dsimp only [scalesSt]
    refine (nat3_put _ _ (stagedA (F := Ideal) kapI (rd xsRect S.xs)) S.a rfl h 0 r).trans ?_
    rw [if_pos (by omega), nat3_of _ (by omega) (by omega) (by omega)]
    refine (stagedA_at _ _ ⟨h, hh⟩ ⟨r, hr⟩).trans ?_
    rw [rd_at _ _ S.xs rfl]
    refine congrArg (· * _) ((B.xs _ _ (by dsimp; omega) (by dsimp; omega)).trans ?_)
    congr 1 <;> dsimp <;> omega
  have H1 := headSt_held hr (by decide) B0 H0
  have B1 := headSt_blk (row := hd) (h := 0) (hr := hr) (hh := by decide) B0
  have H2 := headSt_held hr (by decide) B1 H1
  have B2 := headSt_blk (row := hd) (h := 1) (hr := hr) (hh := by decide) B1
  have H3 := headSt_held hr (by decide) B2 H2
  have B3 := headSt_blk (row := hd) (h := 2) (hr := hr) (hh := by decide) B2
  have H4 := headSt_held hr (by decide) B3 H3
  have B4 := headSt_blk (row := hd) (h := 3) (hr := hr) (hh := by decide) B3
  have H5 := headSt_held hr (by decide) B4 H4
  have B5 := headSt_blk (row := hd) (h := 4) (hr := hr) (hh := by decide) B4
  have H6 := headSt_held hr (by decide) B5 H5
  have B6 := headSt_blk (row := hd) (h := 5) (hr := hr) (hh := by decide) B5
  have H7 := headSt_held hr (by decide) B6 H6
  have B7 := headSt_blk (row := hd) (h := 6) (hr := hr) (hh := by decide) B6
  have H8 := headSt_held hr (by decide) B7 H7
  have B8 := headSt_blk (row := hd) (h := 7) (hr := hr) (hh := by decide) B7
  unfold stageSt
  have C : ∀ T : St Ideal, (clearSt T).x = T.x ∧ (clearSt T).kAll = T.kAll ∧ (clearSt T).ksAll = T.ksAll ∧ (clearSt T).vtAll = T.vtAll ∧
      (clearSt T).a = T.a := fun T => by dsimp only [clearSt]; exact ⟨rfl, rfl, rfl, rfl, rfl⟩
  have M : ∀ T : St Ideal, ∀ (g : Fin 8) (r : Fin 256), (clearSt T).am (ix2 g r) = 0 := fun T g r => by
    dsimp only [clearSt]
    refine (put_whole2 _ (maxInit (F := Ideal)) _ g r).trans ?_
    rw [maxInit_at, bits_zero]
  refine ⟨⟨?_, ?_, ?_⟩, M _⟩
  · rw [(C _).1]; exact B8.x
  · rw [(C _).2.1, (C _).2.2.1, (C _).2.2.2.1]
    refine H8.mono fun i hi => ?_
    rw [if_pos hi]
  · rw [(C _).2.2.2.2, headSt_a, headSt_a, headSt_a, headSt_a, headSt_a, headSt_a, headSt_a, headSt_a]
    exact A0

end Cert.Proof.A

end
-- ==== Proof.KV.Strip.lean ====
/-
  One unit's vectors at an index, at any number of earlier keys.
-/
module

public import proofs.«01_k».proof.Proof.A.Scale
public import proofs.«01_k».proof.Proof.A.Reduce
public import Idealize.ShloMosaic.Lib.MatmulPlain

@[expose] public section

noncomputable section

namespace Cert.Proof.A

open Idealize.ShloMosaic Cert.Proof.H

theorem drop_at {n m : ℕ} {α : Type} (x : (Sh3 1 n m).Idx → α) (h : (Sh3 1 n m).ShapeCasts (Sh2 n m)) (i : Fin n) (j : Fin m) :
    shapeCast (Sh2 n m) x h (ix2 i j) = x (ix3 0 i j) := by
  refine (shapeCast_dropUnit_apply ![n, m] x h (ix2 i j)).trans (congrArg x ?_)
  funext a; fin_cases a <;> rfl

theorem queries_at (x0 x1 : FVec Ideal (Sh3 1 256 256) .fp8e4m3) (l : Fin 512) (d : Fin 256) (p : ℕ) (r : Fin 256) (hl : l.val = 256 * p + r.val) :
    queries (F := Ideal) x0 x1 (ix2 l d) = if p = 0 then x0 (ix3 0 r d) else x1 (ix3 0 r d) := by
  unfold queries
  pointwise
  have := l.isLt
  have := r.isLt
  rcases (by omega : p = 0 ∨ p = 1) with rfl | rfl
  · rw [dif_pos (by omega), if_pos rfl]
    exact congrArg x0 (congrArg (fun z => ix3 0 z d) (Fin.ext (by simpa using hl)))
  · rw [dif_neg (by omega)]
    refine Eq.trans ?_ (if_neg (by decide)).symm
    exact congrArg x1 (congrArg (fun z => ix3 0 z d) (Fin.ext (show l.val - 256 = r.val by omega)))

theorem scores_at (n : ℕ) (k : FVec Ideal (Sh3 1 n 256) .fp8e4m3) (x0 x1 : FVec Ideal (Sh3 1 256 256) .fp8e4m3)
    (j : Fin n) (l : Fin 512) (p : ℕ) (r : Fin 256) (hl : l.val = 256 * p + r.val) :
    scores (F := Ideal) n k x0 x1 (ix2 j l) = ∑ d : Fin 256, k (ix3 0 j d) * (if p = 0 then x0 (ix3 0 r d) else x1 (ix3 0 r d)) := by
  refine (Ideal.matmul_transposedRhs_apply none _ _ _ j l).trans ?_
  refine (congrArg (· + _) bits_zero).trans ((zero_add _).trans ?_)
  exact Finset.sum_congr rfl fun d _ => congr (congrArg HMul.hMul (drop_at k _ j d)) (queries_at x0 x1 l d p r hl)

theorem scaled_at (n vis l : ℕ) (hv : vis ≤ n) (hl : l + 128 ≤ 512) (st : FVec Ideal (Sh2 n 512) .f32)
    (a : FVec Ideal (Sh3 1 1 128) .f32) (ks : FVec Ideal (Sh3 1 vis 128) .f32) (j : Fin vis) (t : Fin 128) :
    scaled (F := Ideal) n vis l hv hl st a ks (ix2 j t)
      = st (ix2 ⟨j, by omega⟩ ⟨l + t, by omega⟩) * a (ix3 0 0 t) * ks (ix3 0 j t) := by
  have hk := drop_at ks (casts_drop vis 128) j t
  generalize hK : shapeCast (Sh2 vis 128) ks (casts_drop vis 128) = K at hk
  unfold scaled
  rw [hK, ← hk]
  pointwise
  refine congrArg (· * _) (congrArg (· * _) (congrArg st ?_))
  funext x
  refine Fin.ext ?_
  fin_cases x
  · show 0 + j.val = j.val; omega
  · rfl

theorem tri_at (j t : Fin 128) (x y : EReal) : Scalar.select (IntOp.cmpi CmpIPredicate.sle (BitVec.ofNat 32 j.val) (BitVec.ofNat 32 t.val)) x y
    = if j.val ≤ t.val then x else y := by
  rw [sle_nat _ _ (by omega) (by omega)]
  by_cases h : j.val ≤ t.val
  · rw [if_pos h, decide_eq_true h]; rfl
  · rw [if_neg h, decide_eq_false h]; rfl

theorem masked_at (hd : ℕ) (z : FVec Ideal (Sh2 (hd + 128) 128) .f32) (j : Fin (hd + 128)) (t : Fin 128) :
    masked (F := Ideal) hd z (ix2 j t) = if j.val ≤ hd + t.val then z (ix2 j t) else ⊥ := by
  cases hd with
  | zero =>
    unfold masked tri
    pointwise
    refine (tri_at ⟨j.val, by omega⟩ t _ _).trans ?_
    exact if_congr Iff.rfl rfl bits_ninf
  | succ h =>
    unfold masked tri
    pointwise
    split
    · rename_i hj
      rw [if_pos (by omega)]
      refine congrArg z ?_
      funext x
      refine Fin.ext ?_
      fin_cases x
      · show 0 + j.val = j.val; omega
      · show 0 + t.val = t.val; omega
    · rename_i hj
      refine (tri_at ⟨j.val - (h + 1), by omega⟩ t _ _).trans ?_
      by_cases hc : j.val ≤ h + 1 + t.val
      · rw [if_pos hc, if_pos (show j.val - (h + 1) ≤ t.val by omega)]
        refine congrArg z ?_
        funext x
        refine Fin.ext ?_
        fin_cases x
        · show h + 1 + (j.val - (h + 1)) = j.val; omega
        · show 0 + t.val = t.val; omega
      · rw [if_neg hc, if_neg (show ¬ j.val - (h + 1) ≤ t.val by omega), bits_ninf]

theorem soft_at (vis : ℕ) (z : FVec Ideal (Sh2 vis 128) .f32) (j : Fin vis) (t : Fin 128) (f : ℕ → EReal)
    (hf : ∀ i : Fin vis, z (ix2 i t) = f i) : soft (F := Ideal) vis z (ix2 j t) = prob2 vis f j := by
  unfold soft
  pointwise
  rw [bits_ninf, fold_max_eq vis f _ hf, prob2]
  refine congr (congrArg HMul.hMul ?_) (congrArg (Ideal.div 1) (sum_fin_eq vis (wt2 vis f) _ fun i => ?_))
  · rw [hf]; rfl
  · rw [hf]; rfl

theorem padded_at (hd : ℕ) (p : FVec Ideal (Sh2 (hd + 128) 128) .bf16) (j : Fin (hd + 128 + 128)) (t : Fin 128) :
    padded (F := Ideal) hd p (ix2 j t) = if h : j.val < hd + 128 then p (ix2 ⟨j, h⟩ t) else 0 := by
  unfold padded
  pointwise
  split
  · refine congrArg p ?_
    funext x; fin_cases x <;> rfl
  · rfl

/-- Which strip a lane lies in. -/
def pick {n : ℕ} (s0 s1 s2 s3 : FVec Ideal (Sh2 n 128) .bf16) : ℕ → FVec Ideal (Sh2 n 128) .bf16
  | 0 => s0
  | 1 => s1
  | 2 => s2
  | _ => s3

theorem strips_at (n : ℕ) (s0 s1 s2 s3 : FVec Ideal (Sh2 n 128) .bf16) (j : Fin n) (l : Fin 512) (w : ℕ) (t : Fin 128)
    (hl : l.val = 128 * w + t.val) :
    concatenate (Sh2 n 512) 1 [⟨Sh2 n 128, s0⟩, ⟨Sh2 n 128, s1⟩, ⟨Sh2 n 128, s2⟩, ⟨Sh2 n 128, s3⟩] (concatenates_strips n) (ix2 j l)
      = pick s0 s1 s2 s3 w (ix2 j t) := by
  have := l.isLt
  have := t.isLt
  have key : ∀ (k : ℕ) (hk : k < 4) (x : FVec Ideal (Sh2 n 128) .bf16)
      (hx : ([⟨Sh2 n 128, s0⟩, ⟨Sh2 n 128, s1⟩, ⟨Sh2 n 128, s2⟩, ⟨Sh2 n 128, s3⟩] : List ((s : Shape) × (s.Idx → EReal)))[k]'hk = ⟨Sh2 n 128, x⟩)
      (hl : 128 * k + t.val = l.val)
      (hp : ((([⟨Sh2 n 128, s0⟩, ⟨Sh2 n 128, s1⟩, ⟨Sh2 n 128, s2⟩, ⟨Sh2 n 128, s3⟩] : List ((s : Shape) × (s.Idx → EReal))).take k).map (·.1) |>.map
        fun s => if h : s.rank = (Sh2 n 512).rank then s.size ((1 : Fin (Sh2 n 512).rank).cast h.symm) else 0).sum = 128 * k),
      concatenate (Sh2 n 512) 1 [⟨Sh2 n 128, s0⟩, ⟨Sh2 n 128, s1⟩, ⟨Sh2 n 128, s2⟩, ⟨Sh2 n 128, s3⟩] (concatenates_strips n) (ix2 j l)
        = x (ix2 j t) := by
    intro k hk x hx hl hp
    refine concatenate_apply_piece (t := Sh2 n 512) 1
      [⟨Sh2 n 128, s0⟩, ⟨Sh2 n 128, s1⟩, ⟨Sh2 n 128, s2⟩, ⟨Sh2 n 128, s3⟩] (concatenates_strips n) (ix2 j l) k hk (Sh2 n 128) x hx rfl (128 * k) hp (ix2 j t) ?_ hl
    intro b hb
    fin_cases b
    · rfl
    · exact absurd rfl hb
  rcases (by omega : w = 0 ∨ w = 1 ∨ w = 2 ∨ w = 3) with rfl | rfl | rfl | rfl
  · exact key 0 (by decide) s0 rfl (by omega) rfl
  · exact key 1 (by decide) s1 rfl (by omega) rfl
  · exact key 2 (by decide) s2 rfl (by omega) rfl
  · exact key 3 (by decide) s3 rfl (by omega) rfl

theorem outT_at (n : ℕ) (vt : FVec Ideal (Sh3 1 256 n) .bf16) (s0 s1 s2 s3 : FVec Ideal (Sh2 n 128) .bf16) (d : Fin 256)
    (l : Fin 512) (w : ℕ) (t : Fin 128) (hl : l.val = 128 * w + t.val) :
    outT (F := Ideal) n vt s0 s1 s2 s3 (ix2 d l) = ∑ j : Fin n, vt (ix3 0 d j) * pick s0 s1 s2 s3 w (ix2 j t) := by
  refine (Ideal.matmul_plain_apply none _ _ _ d l).trans ?_
  refine (congrArg (· + _) bits_zero).trans ((zero_add _).trans ?_)
  exact Finset.sum_congr rfl fun j _ => congr (congrArg HMul.hMul (drop_at vt _ d j)) (strips_at n s0 s1 s2 s3 j l w t hl)

theorem outHalf_at (l : ℕ) (hl : l + 256 ≤ 512) (ot : FVec Ideal (Sh2 256 512) .f32) (d r : Fin 256) :
    outHalf (F := Ideal) l hl ot (ix3 0 d r) = ot (ix2 d ⟨l + r, by omega⟩) := by
  unfold outHalf
  pointwise

theorem maxStep_at (ot : FVec Ideal (Sh2 256 512) .f32) (am : FVec Ideal (Sh2 8 256) .f32) (g : Fin 8) (r : Fin 256) (f₀ f₁ : ℕ → EReal)
    (h₀ : ∀ k : Fin 256, ot (ix2 k ⟨r, by omega⟩) = f₀ k) (h₁ : ∀ k : Fin 256, ot (ix2 k ⟨256 + r, by omega⟩) = f₁ k) :
    maxStep (F := Ideal) ot am (ix2 g r) = max (am (ix2 g r))
      (max ((Finset.range 32).sup fun k => mag (f₀ (8 * k + g))) ((Finset.range 32).sup fun k => mag (f₁ (8 * k + g)))) := by
  unfold maxStep
  pointwise
  refine congrArg _ (congr (congrArg max ?_) ?_)
  · rw [bits_ninf]
    refine fold_max_eq 32 (fun k => mag (f₀ (8 * k + g))) _ fun k => ?_
    rw [mul_comm 8]
    exact congrArg mag (h₀ ⟨k.val * 8 + g.val, by omega⟩)
  · rw [bits_ninf]
    refine fold_max_eq 32 (fun k => mag (f₁ (8 * k + g))) _ fun k => ?_
    rw [mul_comm 8]
    exact congrArg mag (h₁ ⟨k.val * 8 + g.val, by omega⟩)

end Cert.Proof.A

end
-- ==== Proof.KV.Unit.lean ====
/-
  One unit computes its two heads' outputs.
-/
module

public import proofs.«01_k».proof.Proof.KV.Stage
public import proofs.«01_k».proof.Proof.KV.Strip

@[expose] public section

noncomputable section

namespace Cert.Proof.A

open Idealize.ShloMosaic Cert.Proof.H

variable {I : In} {b : ℕ}

/-- The score in base two. -/
def score2 (I : In) (b h i j : ℕ) : EReal :=
  if j ≤ i then raw I b h i j * (I.xs b i h * kapI) * I.ks b j (h / 4) else ⊥

theorem score2_eq (h i j : ℕ) : score2 I b h i j = kap2 * score I b h i j := by
  unfold score2 score
  split
  · rw [kapI_eq]
    rw [mul_left_comm (I.xs b i h), mul_left_comm (raw I b h i j), mul_assoc kap2]
  · rw [kap2_bot]

/-- One strip's probabilities. -/
theorem strip_prob (n H L : ℕ) (hv : H + 128 ≤ n) (hl : L + 128 ≤ 512) (st : FVec Ideal (Sh2 n 512) .f32)
    (a : FVec Ideal (Sh3 1 1 128) .f32) (ks : FVec Ideal (Sh3 1 (H + 128) 128) .f32) (h : ℕ) (t : Fin 128)
    (hst : ∀ j : Fin (H + 128), st (ix2 ⟨j, by omega⟩ ⟨L + t, by omega⟩) = raw I b h (H + t) j)
    (ha : a (ix3 0 0 t) = I.xs b (H + t) h * kapI) (hks : ∀ j : Fin (H + 128), ks (ix3 0 j t) = I.ks b j (h / 4)) (j : Fin (H + 128)) :
    soft (F := Ideal) (H + 128) (masked H (scaled n (H + 128) L hv hl st a ks)) (ix2 j t) = prob2 (H + 128) (score2 I b h (H + t)) j := by
  refine soft_at _ _ j t _ fun i => ?_
  rw [masked_at, scaled_at, hst, ha, hks, score2]

variable {hd : ℕ} (hn : hd + 128 + 128 ≤ 2048) (u : Fin uLoop.trips) {S : St Ideal}

theorem u_lt : u.val < 16 := u.isLt

theorem unitScores_at (T : Staged I b hd S) (j : Fin (hd + 128 + 128)) (l : Fin 512) (p : ℕ) (r : Fin 256) (hl : l.val = 256 * p + r.val) :
    unitScores (F := Ideal) hd hn u S (ix2 j l) = raw I b (2 * u.val + p) (hd + r) j := by
  have hu := u_lt u
  have := l.isLt
  have := r.isLt
  unfold unitScores
  rw [scores_at _ _ _ _ j l p r hl, raw]
  refine sum_fin_eq 256 _ _ fun d => ?_
  rw [mul_comm]
  refine congr (congrArg HMul.hMul ?_) ?_
  · rcases (by omega : p = 0 ∨ p = 1) with rfl | rfl
    · rw [if_pos rfl, rd_at _ _ S.x (xOff_eq u 0)]
      refine (T.x _ _ (by omega) (by simp; omega)).trans ?_
      congr 1 <;> simp; omega
    · rw [if_neg (by omega), rd_at _ _ S.x (xOff_eq u 1)]
      refine (T.x _ _ (by omega) (by simp; omega)).trans ?_
      congr 1 <;> simp; omega
  · rw [rd_at _ _ S.kAll (kvOff_eq u)]
    refine (T.held.k _ _ _ (by simp; omega) (by omega) (by omega)).trans ?_
    congr 1
    · omega
    · simp; omega

theorem as_at (T : Staged I b hd S) (p : Fin 2) (l : ℕ) (hl : l + 128 ≤ 256) (t : Fin 128) :
    rd (asRect u p l hl) S.a (ix3 0 0 t) = I.xs b (hd + (l + t)) (2 * u.val + p) * kapI := by
  have hu := u_lt u
  rw [rd_at _ _ S.a (hOff_eq u p l)]
  exact T.a _ _ (by simp; omega) (by omega)

theorem ks_at (T : Staged I b hd S) (n : ℕ) (hn : n ≤ 2048) (hm : n ≤ hd + 256) (h : ℕ) (hh : h / 4 = u.val / 2) (j : Fin n) (t : Fin 128) :
    rd (ksRect u n hn) S.ksAll (ix3 0 j t) = I.ks b j (h / 4) := by
  have hu := u_lt u
  rw [rd_at _ _ S.ksAll (kvOff_eq u)]
  refine (T.held.ks _ _ _ (by simp; omega) (by omega) (by omega)).trans ?_
  congr 1 <;> simp; omega

theorem vt_at (T : Staged I b hd S) (h : ℕ) (hh : h / 4 = u.val / 2) (d : Fin 256) (j : Fin (hd + 128 + 128)) :
    rd (vtRect u (hd + 128 + 128) hn) S.vtAll (ix3 0 d j) = I.v b j (256 * (h / 4) + d) * I.vs b j (h / 4) := by
  have hu := u_lt u
  rw [rd_at _ _ S.vtAll (kvOff_eq u)]
  refine (T.held.vt _ _ _ (by simp; omega) (by omega) (by omega)).trans ?_
  rw [hh]
  simp

/-- The strips of a unit, at any head and position: the probabilities, zero past the keys the strip sees. -/
theorem strips_prob (T : Staged I b hd S) (p : Fin 2) (r : Fin 256) (w : ℕ) (t : Fin 128) (hw : w = 2 * p.val + r.val / 128)
    (ht : t.val = r.val % 128) (j : Fin (hd + 128 + 128)) :
    pick
      (stripE hd 0 (by decide) (unitScores hd hn u S) (rd (asRect u 0 0 (by decide)) S.a) (rd (ksRect u (hd + 128) (by omega)) S.ksAll))
      (stripO hd 128 (by decide) (unitScores hd hn u S) (rd (asRect u 0 128 (by decide)) S.a) (rd (ksRect u (hd + 128 + 128) hn) S.ksAll))
      (stripE hd 256 (by decide) (unitScores hd hn u S) (rd (asRect u 1 0 (by decide)) S.a) (rd (ksRect u (hd + 128) (by omega)) S.ksAll))
      (stripO hd 384 (by decide) (unitScores hd hn u S) (rd (asRect u 1 128 (by decide)) S.a) (rd (ksRect u (hd + 128 + 128) hn) S.ksAll))
      w (ix2 j t)
    = if j.val < hd + 128 + 128 * (r.val / 128) then
        prob2 (hd + 128 + 128 * (r.val / 128)) (score2 I b (2 * u.val + p) (hd + r)) j else 0 := by
  have hu := u_lt u
  have hE : ∀ (p : Fin 2) (L : ℕ) (hL : L + 128 ≤ 512) (_ : L = 256 * p.val) (_ : r.val / 128 = 0),
      stripE (F := Ideal) hd L hL (unitScores hd hn u S) (rd (asRect u p 0 (by decide)) S.a) (rd (ksRect u (hd + 128) (by omega)) S.ksAll) (ix2 j t)
        = if j.val < hd + 128 + 128 * (r.val / 128) then
          prob2 (hd + 128 + 128 * (r.val / 128)) (score2 I b (2 * u.val + p) (hd + r)) j else 0 := by
    intro p L hL hLp h0
    have hr : r.val = t.val := by omega
    unfold stripE
    rw [padded_at, h0, hr]
    simp only [Nat.mul_zero, Nat.add_zero]
    by_cases hj : j.val < hd + 128
    · rw [dif_pos hj, if_pos hj]
      refine strip_prob _ hd L _ hL _ _ _ (2 * u.val + p) t (fun j => ?_) ?_ (fun j => ?_) ⟨j, hj⟩
      · refine (unitScores_at hn u T _ _ p.val r (by simp; omega)).trans ?_
        rw [hr]
      · rw [as_at u T p 0 _ t, Nat.zero_add]
      · exact ks_at u T _ _ (by omega) _ (by omega) j t
    · rw [dif_neg hj, if_neg hj]
  have hO : ∀ (p : Fin 2) (L : ℕ) (hL : L + 128 ≤ 512) (_ : L = 256 * p.val + 128) (_ : r.val / 128 = 1),
      stripO (F := Ideal) hd L hL (unitScores hd hn u S) (rd (asRect u p 128 (by decide)) S.a) (rd (ksRect u (hd + 128 + 128) hn) S.ksAll) (ix2 j t)
        = if j.val < hd + 128 + 128 * (r.val / 128) then
          prob2 (hd + 128 + 128 * (r.val / 128)) (score2 I b (2 * u.val + p) (hd + r)) j else 0 := by
    intro p L hL hLp h0
    have hr : hd + r.val = hd + 128 + t.val := by omega
    have hj := j.isLt
    unfold stripO
    rw [h0, hr]
    simp only [Nat.mul_one]
    rw [if_pos hj]
    refine strip_prob _ (hd + 128) L _ hL _ _ _ (2 * u.val + p) t (fun j => ?_) ?_ (fun j => ?_) j
    · refine (unitScores_at hn u T _ _ p.val r (by simp; omega)).trans ?_
      rw [hr]
    · rw [as_at u T p 128 _ t, ← Nat.add_assoc]
    · exact ks_at u T _ _ (by omega) _ (by omega) j t
  have := r.isLt
  rcases (by omega : r.val / 128 = 0 ∨ r.val / 128 = 1) with h0 | h0
  · match p, hw with
    | 0, hw => obtain rfl : w = 0 := hw.trans (by rw [h0]; rfl)
               exact hE 0 0 _ rfl h0
    | 1, hw => obtain rfl : w = 2 := hw.trans (by rw [h0]; rfl)
               exact hE 1 256 _ rfl h0
  · match p, hw with
    | 0, hw => obtain rfl : w = 1 := hw.trans (by rw [h0]; rfl)
               exact hO 0 128 _ rfl h0
    | 1, hw => obtain rfl : w = 3 := hw.trans (by rw [h0]; rfl)
               exact hO 1 384 _ rfl h0

/-- The outputs of a unit. -/
theorem unitOut_at (T : Staged I b hd S) (d : Fin 256) (l : Fin 512) (p : Fin 2) (r : Fin 256) (hl : l.val = 256 * p.val + r.val) :
    unitOut (F := Ideal) hd hn u S (ix2 d l) = outv I b (hd + r) (2 * u.val + p) d := by
  have hu := u_lt u
  have := r.isLt
  unfold unitOut
  rw [outT_at _ _ _ _ _ _ d l (2 * p.val + r.val / 128) ⟨r.val % 128, by omega⟩ (by dsimp; omega)]
  let P : ℕ → EReal := fun j => if j < hd + 128 + 128 * (r.val / 128) then
        prob2 (hd + 128 + 128 * (r.val / 128)) (score2 I b (2 * u.val + p) (hd + r)) j else 0
  let V : ℕ → EReal := fun j => I.v b j (256 * ((2 * u.val + p) / 4) + d)
  let W : ℕ → EReal := fun j => I.vs b j ((2 * u.val + p) / 4)
  refine (sum_fin_eq _ (fun j => (V j * W j) * P j) _ fun j => congr (congrArg HMul.hMul (vt_at hn u T (2 * u.val + p) (by omega) d j))
    (strips_prob hn u T p r _ _ rfl rfl j)).trans ?_
  exact row_eq (z := score I b (2 * u.val + p) (hd + r)) (i := hd + r.val) (n := hd + 128 + 128 * (r.val / 128)) (M := 2048)
    (score2_eq _ _) (fun j hj => if_neg (by omega)) (by omega) (by omega) (by omega) hn P V W (fun j hj => if_pos hj) (fun j hj => if_neg (by omega))

end Cert.Proof.A

end
-- ==== Proof.KV.Finish.lean ====
/-
  The kernel's quantiser at an index.
-/
module

public import proofs.«01_k».proof.Proof.A.Scale
public import proofs.«01_k».proof.Proof.A.Reduce

@[expose] public section

noncomputable section

namespace Cert.Proof.A

open Idealize.ShloMosaic Cert.Proof.H

theorem wanted_at (am : FVec Ideal (Sh2 8 256) .f32) (r : Fin 256) (f : ℕ → EReal) (hf : ∀ g : Fin 8, am (ix2 g r) = f g) :
    wanted (F := Ideal) am (ix2 0 r) = (Finset.range 8).sup f * c448 := by
  unfold wanted
  pointwise
  rw [bits_ninf, fold_max_eq 8 f _ hf]

/-- The powers of two the quantiser counts. -/
theorem bits_count (k : ℕ) (hk : k < 254) :
    Ideal.ofBits FTy.f32 (IntOp.shli ArithUnit.vector
      (IntOp.addi (IntOp.subi (IntOp.addi (BitVec.ofNat 32 k) 1#32) 127#32) 127#32) 23#32) = (((2 : ℝ) ^ ((k : ℤ) - 126) : ℝ) : EReal) := by
  have e : IntOp.shli ArithUnit.vector
      (IntOp.addi (IntOp.subi (IntOp.addi (BitVec.ofNat 32 k) 1#32) 127#32) 127#32) 23#32 = BitVec.ofNat 32 ((k + 1) * 2 ^ 23) := by
    rw [IntOp.addi, IntOp.addi, IntOp.subi, BitVec.sub_add_cancel, IntOp.shli, if_pos (by decide), BitVec.shiftLeft_eq']
    apply BitVec.eq_of_toNat_eq
    rw [BitVec.toNat_shiftLeft, Nat.shiftLeft_eq, BitVec.toNat_ofNat, BitVec.toNat_add, BitVec.toNat_ofNat, BitVec.toNat_ofNat]
    rw [Nat.mod_eq_of_lt (show 1 < 2 ^ 32 by omega), Nat.mod_eq_of_lt (show 23 < 2 ^ 32 by omega), Nat.mod_eq_of_lt (show k < 2 ^ 32 by omega),
      Nat.mod_eq_of_lt (show k + 1 < 2 ^ 32 by omega), BitVec.toNat_ofNat]
  rw [e, bits_pow2 (k + 1) (by omega) (by omega)]
  congr 2; push_cast; ring

theorem biased_at (z : FVec Ideal (Sh2 1 256) .f32) (r : Fin 256) : biased (F := Ideal) z (ix2 0 r) = biasOf (z (ix2 0 r)) := by
  unfold biased
  pointwise
  rw [biasOf]
  refine congrArg (Ideal.fptosi 32) (if_congr Iff.rfl (sum_fin_eq 254 (fun k => if (((2 : ℝ) ^ ((k : ℤ) - 126) : ℝ) : EReal) ≤ z (ix2 0 r) then (1 : EReal) else 0) _
    fun k => ?_) rfl)
  rw [bits_count k k.isLt]

theorem expo_at (z : FVec Ideal (Sh2 1 256) .f32) (r : Fin 256) : expo (F := Ideal) z (ix2 0 r) = expOf (z (ix2 0 r)) := by
  unfold expo
  pointwise
  rw [biased_at, expOf]
  show Scalar.select (IntOp.ori (BitVec.ofBool (biasOf (z (ix2 0 r)) == 0#32)) (BitVec.ofBool (biasOf (z (ix2 0 r)) == 255#32))) _ _ = _
  by_cases h0 : biasOf (z (ix2 0 r)) = 0#32
  · rw [if_pos (.inl h0), h0]; rfl
  · by_cases h1 : biasOf (z (ix2 0 r)) = 255#32
    · rw [if_pos (.inr h1), h1]; rfl
    · rw [if_neg (by tauto), beq_false_of_ne h0, beq_false_of_ne h1]; rfl

theorem scaleRow_at (e : IVec (Sh2 1 256) 32) (r : Fin 256) : scaleRow (F := Ideal) e (ix3 0 0 r) = powOf (e (ix2 0 r)) := by
  unfold scaleRow pow2
  pointwise
  rfl

theorem codes_at (e : IVec (Sh2 1 256) 32) (o : FVec Ideal (Sh3 1 256 256) .f32) (r d : Fin 256) :
    codes (F := Ideal) e o (ix3 0 r d) = clip (o (ix3 0 d r) * powOf (0#32 - e (ix2 0 r))) := by
  unfold codes pow2
  pointwise
  rfl

end Cert.Proof.A

end
-- ==== Proof.KV.Body.lean ====
/-
  The whole body: its codes, its scales, and what it leaves staged.
-/
module

public import proofs.«01_k».proof.Proof.KV.Unit
public import proofs.«01_k».proof.Proof.KV.Finish
public import proofs.«01_k».proof.Proof.H.Keep

@[expose] public section

noncomputable section

namespace Cert.Proof.A

open Idealize.ShloMosaic Cert.Proof.H

variable {I : In} {b : ℕ}

theorem mag_nonneg (x : EReal) : 0 ≤ mag x := by
  rcases le_total 0 x with h | h
  · exact h.trans (le_max_left _ _)
  · exact (EReal.neg_nonneg.mpr h).trans (le_max_right _ _)

/-- One unit's largest magnitude in row `g` of the running maximum. -/
def unitMax (I : In) (b i g u : ℕ) : EReal :=
  max ((Finset.range 32).sup fun k => mag (outv I b i (2 * u) (8 * k + g)))
    ((Finset.range 32).sup fun k => mag (outv I b i (2 * u + 1) (8 * k + g)))

/-- The running maximum after `n` units. -/
def runMax (I : In) (b i n g : ℕ) : EReal := max 0 ((Finset.range n).sup (unitMax I b i g))

theorem runMax_zero (i g : ℕ) : runMax I b i 0 g = 0 := by simp [runMax]

theorem runMax_succ (i n g : ℕ) : runMax I b i (n + 1) g = max (runMax I b i n g) (unitMax I b i g n) := by
  rw [runMax, runMax, Finset.range_add_one, Finset.sup_insert, max_assoc]
  exact congrArg _ (max_comm _ _)

/-- The eight rows together hold the largest magnitude of the position. -/
theorem runMax_all (i : ℕ) : (Finset.range 8).sup (runMax I b i 16) = amax I b i := by
  have up : ∀ h d, h < 32 → d < 256 → mag (outv I b i h d) ≤ amax I b i := by
    intro h d hh hd
    have := Finset.le_sup (f := fun c => mag (outv I b i (c / 256) (c % 256))) (Finset.mem_range.mpr (show 256 * h + d < 8192 by omega))
    rwa [show (256 * h + d) / 256 = h by omega, show (256 * h + d) % 256 = d by omega] at this
  refine le_antisymm (Finset.sup_le fun g hg => ?_) (Finset.sup_le fun c hc => ?_)
  · have hg := Finset.mem_range.mp hg
    refine max_le ((mag_nonneg _).trans (up 0 0 (by omega) (by omega))) (Finset.sup_le fun u hu => ?_)
    have hu := Finset.mem_range.mp hu
    refine max_le (Finset.sup_le fun k hk => ?_) (Finset.sup_le fun k hk => ?_)
    · have hk := Finset.mem_range.mp hk
      exact up _ _ (by omega) (by omega)
    · have hk := Finset.mem_range.mp hk
      exact up _ _ (by omega) (by omega)
  · have hc := Finset.mem_range.mp hc
    have hg : c % 8 < 8 := by omega
    refine le_trans ?_ (Finset.le_sup (f := runMax I b i 16) (Finset.mem_range.mpr hg))
    refine le_trans ?_ (le_max_right _ _)
    refine le_trans ?_ (Finset.le_sup (f := unitMax I b i (c % 8)) (Finset.mem_range.mpr (show c / 512 < 16 by omega)))
    have hk : c % 256 / 8 ∈ Finset.range 32 := Finset.mem_range.mpr (by omega)
    have e : 8 * (c % 256 / 8) + c % 8 = c % 256 := by omega
    rcases (by omega : c / 256 = 2 * (c / 512) ∨ c / 256 = 2 * (c / 512) + 1) with h | h
    · refine le_trans ?_ (le_max_left _ _)
      have := Finset.le_sup (f := fun k => mag (outv I b i (2 * (c / 512)) (8 * k + c % 8))) hk
      rw [e] at this; rw [h]; exact this
    · refine le_trans ?_ (le_max_right _ _)
      have := Finset.le_sup (f := fun k => mag (outv I b i (2 * (c / 512) + 1) (8 * k + c % 8))) hk
      rw [e] at this; rw [h]; exact this

/-- The state after `n` units. -/
structure Units (I : In) (b hd n : ℕ) (S : St Ideal) : Prop where
  staged : Staged I b hd S
  o : ∀ h d r, h < 2 * n → d < 256 → r < 256 → nat3 S.o h d r = outv I b (hd + r) h d
  am : ∀ (g : Fin 8) (r : Fin 256), S.am (ix2 g r) = runMax I b (hd + r) n g

theorem unitSt_units {hd : ℕ} (hn : hd + 128 + 128 ≤ 2048) (u : Fin uLoop.trips) {S : St Ideal} (U : Units I b hd u.val S) :
    Units I b hd (u.val + 1) (unitSt hd hn u S) := by
  have hu := u_lt u
  have T := U.staged
  have K : (unitSt hd hn u S).x = S.x ∧ (unitSt hd hn u S).kAll = S.kAll ∧ (unitSt hd hn u S).ksAll = S.ksAll ∧
      (unitSt hd hn u S).vtAll = S.vtAll ∧ (unitSt hd hn u S).a = S.a := by
    dsimp only [unitSt]; exact ⟨rfl, rfl, rfl, rfl, rfl⟩
  refine ⟨⟨?_, ?_, ?_⟩, fun h d r hh hd' hr => ?_, fun g r => ?_⟩
  · rw [K.1]; exact T.x
  · rw [K.2.1, K.2.2.1, K.2.2.2.1]; exact T.held
  · rw [K.2.2.2.2]; exact T.a
  · dsimp only [unitSt]
    refine (nat3_put _ _ (outHalf (F := Ideal) 256 (by decide) (unitOut hd hn u S)) _ (hOff_eq u 1 0) h d r).trans ?_
    split
    · rename_i hc
      have e : h = 2 * u.val + 1 := by simp at hc; omega
      rw [nat3_of _ (by simp; omega) (by simp; omega) (by simp; omega)]
      rw [show (⟨h - (2 * u.val + (1 : Fin 2).val), by simp; omega⟩ : Fin 1) = 0 from Fin.ext (by simp; omega), outHalf_at,
        unitOut_at hn u T _ _ 1 ⟨r, hr⟩ (by simp), e]
      simp
    · rename_i hc
      refine (nat3_put _ _ (outHalf (F := Ideal) 0 (by decide) (unitOut hd hn u S)) _ (hOff_eq u 0 0) h d r).trans ?_
      split
      · rename_i hc
        have e : h = 2 * u.val := by simp at hc; omega
        rw [nat3_of _ (by simp; omega) (by simp; omega) (by simp; omega)]
        rw [show (⟨h - (2 * u.val + (0 : Fin 2).val), by simp; omega⟩ : Fin 1) = 0 from Fin.ext (by simp; omega), outHalf_at,
          unitOut_at hn u T _ _ 0 ⟨r, hr⟩ (by simp), e]
        simp
      · rename_i hc'
        refine U.o h d r ?_ hd' hr
        simp at hc hc'
        omega
  · dsimp only [unitSt]
    refine (put_whole2 _ (maxStep (F := Ideal) (unitOut hd hn u S) (rd amRect S.am)) _ g r).trans ?_
    rw [maxStep_at _ _ g r (outv I b (hd + r) (2 * u.val)) (outv I b (hd + r) (2 * u.val + 1))
      (fun k => unitOut_at hn u T k _ 0 r (by simp)) (fun k => unitOut_at hn u T k _ 1 r (by simp)), rd_whole2, U.am, runMax_succ]
    rfl

theorem branchSt_units {hd : ℕ} (hn : hd + 128 + 128 ≤ 2048) {S : St Ideal} (B : Blk I b hd S) (H : Held I b hd S.kAll S.ksAll S.vtAll) :
    Units I b hd 16 (branchSt kapI hd hn S) := by
  obtain ⟨T, M⟩ := stageSt_staged hn B H
  have key : ∀ n, n ≤ 16 → Units I b hd n (iter (unitSt hd hn) n (stageSt kapI hd hn S)) := by
    intro n
    induction n with
    | zero => exact fun _ => ⟨T, fun h d r hh => absurd hh (by omega), fun g r => (M g r).trans (runMax_zero _ _).symm⟩
    | succ n ih =>
      intro h
      have := iter_succ (unitSt (F := Ideal) hd hn) ⟨n, h⟩ (stageSt kapI hd hn S)
      rw [this]
      exact unitSt_units hn ⟨n, h⟩ (ih (by omega))
  exact key 16 le_rfl

theorem expoSt_at {hd : ℕ} {S : St Ideal} (U : Units I b hd 16 S) (r : Fin 256) :
    expoSt S (ix2 0 r) = expOf (amax I b (hd + r) * c448) := by
  unfold expoSt
  rw [expo_at, wanted_at _ r (runMax I b (hd + r) 16) fun g => ?_, runMax_all]
  rw [rd_whole2, U.am]

/-- Emitting the codes, head by head. -/
theorem emit_at {hd : ℕ} (e : IVec (Sh2 1 256) 32) (S : St Ideal) (he : ∀ r : Fin 256, e (ix2 0 r) = expOf (amax I b (hd + r) * c448))
    (ho : ∀ h d r, h < 32 → d < 256 → r < 256 → nat3 S.o h d r = outv I b (hd + r) h d) (n : ℕ) (hn : n ≤ 32) :
    ∀ r c, r < 256 → c < 256 * n → nat3 (iter (emitSt (F := Ideal) e) n S).oc 0 r c = codeAt I b (hd + r) c := by
  induction n with
  | zero => exact fun r c _ hc => absurd hc (by omega)
  | succ n ih =>
    intro r c hr hc
    have hs := iter_succ (emitSt (F := Ideal) e) ⟨n, hn⟩ S
    have hk : (iter (emitSt (F := Ideal) e) n S).o = S.o := iter_keep St.o _ (fun _ _ => by dsimp only [emitSt]) _ _
    dsimp only at hs
    rw [hs]
    dsimp only [emitSt]
    refine (nat3_put _ _ (codes (F := Ideal) e (rd (eRect ⟨n, hn⟩) _)) _ (ocOff_eq ⟨n, hn⟩) 0 r c).trans ?_
    split
    · rename_i hc'
      dsimp only at hc'
      rw [nat3_of _ (by omega) (by omega) (by dsimp only; omega)]
      refine (codes_at e _ ⟨r - 0, by omega⟩ ⟨c - 256 * n, by omega⟩).trans ?_
      rw [rd_at _ _ _ (oOff_eq ⟨n, hn⟩), hk, he, powOf_neg_exp, codeAt]
      dsimp only [Nat.add_zero, Nat.sub_zero, Fin.val_zero, Nat.zero_add]
      rw [Nat.zero_add, Nat.zero_add, ho n _ r (by omega) (by omega) hr,
        show c / 256 = n by omega, show c % 256 = c - 256 * n by omega]
    · rename_i hc'
      dsimp only at hc'
      exact ih (by omega) r c hr (by omega)

/-- What the body computes, and what it leaves staged for the next block. -/
theorem bodySt_value (q : Fin 8) {S : St Ideal} (B : Blk I b (256 * q.val) S) (H : Held I b (256 * q.val) S.kAll S.ksAll S.vtAll) :
    (∀ r c, r < 256 → c < 8192 → nat3 (bodySt kapI q S).oc 0 r c = codeAt I b (256 * q.val + r) c) ∧
    (∀ r, r < 256 → nat3 (bodySt kapI q S).os 0 0 r = scaleAt I b (256 * q.val + r)) ∧
    Held I b (256 * q.val + 256) (bodySt kapI q S).kAll (bodySt kapI q S).ksAll (bodySt kapI q S).vtAll := by
  have U := branchSt_units (I := I) (b := b) (hd := 256 * q.val) (by omega) B H
  unfold bodySt
  generalize branchSt kapI (256 * q.val) _ S = R at U
  have he := expoSt_at U
  unfold finishSt
  refine ⟨?_, ?_, ?_⟩
  · exact emit_at (expoSt R) { R with os := put osRect (scaleRow (F := Ideal) (expoSt R)) R.os } he (fun h d r hh => U.o h d r (by omega)) 32 le_rfl
  · intro r hr
    rw [iter_keep St.os _ fun _ _ => by dsimp only [emitSt]]
    dsimp only
    refine (nat3_put _ _ (scaleRow (F := Ideal) (expoSt R)) _ rfl 0 0 r).trans ?_
    rw [if_pos (by omega), nat3_of _ (by omega) (by omega) (by omega)]
    refine (scaleRow_at _ ⟨r - 0, by omega⟩).trans ?_
    rw [he, powOf_exp, scaleAt]
    rfl
  · rw [iter_keep St.kAll _ fun _ _ => by dsimp only [emitSt], iter_keep St.ksAll _ fun _ _ => by dsimp only [emitSt],
      iter_keep St.vtAll _ fun _ _ => by dsimp only [emitSt]]
    exact U.staged.held

end Cert.Proof.A

end
-- ==== Proof.KI.Value.lean ====
/-
  The kernel's run with its results named: the pipeline carries the staged keys and values from one grid point to the
  next, and leaves the reference's codes and scales in the result arrays.
-/
module

public import proofs.«01_k».proof.Proof.KI.Frame
public import proofs.«01_k».proof.Proof.KV.Body
public import Idealize.ShloMosaic.Lib.Pipeline.ValueKit.Geometry

@[expose] public section

set_option maxRecDepth 16384

noncomputable section

namespace Cert.KernelIdeal.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proof.H Cert.Proof.A Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The inputs at natural coordinates. -/
def inpI (c : Dev nD) : In where
  x := nat3 (A := 8) (B := 2048) (C := 8192) (V m c main_arg0)
  xs := nat3 (A := 8) (B := 2048) (C := 32) (V m c main_arg1)
  k := nat3 (A := 8) (B := 2048) (C := 2048) (V m c main_arg2)
  ks := nat3 (A := 8) (B := 2048) (C := 8) (V m c main_arg3)
  v := nat3 (A := 8) (B := 2048) (C := 2048) (V m c main_arg4)
  vs := nat3 (A := 8) (B := 2048) (C := 8) (V m c main_arg5)

theorem idx0 : ∀ t : Fin cfg0.N, win0_0.index t 0 = t.val / 8 ∧ win0_0.index t 1 = t.val % 8 ∧ win0_0.index t 2 = 0 := by decide +kernel
theorem idx1 : ∀ t : Fin cfg0.N, win0_1.index t 0 = t.val / 8 ∧ win0_1.index t 1 = t.val % 8 ∧ win0_1.index t 2 = 0 := by decide +kernel
theorem idx2 : ∀ t : Fin cfg0.N, win0_2.index t 0 = t.val / 8 ∧ win0_2.index t 1 = t.val % 8 ∧ win0_2.index t 2 = 0 := by decide +kernel
theorem idx3 : ∀ t : Fin cfg0.N, win0_3.index t 0 = t.val / 8 ∧ win0_3.index t 1 = t.val % 8 ∧ win0_3.index t 2 = 0 := by decide +kernel
theorem idx4 : ∀ t : Fin cfg0.N, win0_4.index t 0 = t.val / 8 ∧ win0_4.index t 1 = t.val % 8 ∧ win0_4.index t 2 = 0 := by decide +kernel
theorem idx5 : ∀ t : Fin cfg0.N, win0_5.index t 0 = t.val / 8 ∧ win0_5.index t 1 = t.val % 8 ∧ win0_5.index t 2 = 0 := by decide +kernel
theorem idx6 : ∀ t : Fin cfg0.N, win0_6.index t 0 = t.val / 8 ∧ win0_6.index t 1 = t.val % 8 ∧ win0_6.index t 2 = 0 := by decide +kernel
theorem idx7 : ∀ t : Fin cfg0.N, win0_7.index t 0 = t.val / 8 ∧ win0_7.index t 1 = 0 ∧ win0_7.index t 2 = t.val % 8 := by decide +kernel
theorem qAt_val : ∀ t : Fin cfg0.N, (qAt t : ℕ) = t.val % 8 := by decide +kernel

theorem blk0 (c : Dev nD) (t : Fin cfg0.N) (r j : ℕ) (hr : r < 256) (hj : j < 8192) :
    nat3 (A := 1) (B := 256) (C := 8192) (iblk m c 0 t) 0 r j = (inpI m c).x (t.val / 8) (256 * (t.val % 8) + r) j := by
  obtain ⟨e0, e1, e2⟩ := idx0 t
  rw [nat3_of _ (by omega) hr hj]
  blk_simp [iblk]
  change _ = nat3 (A := 8) (B := 2048) (C := 8192) (V m c main_arg0) _ _ _
  refine at_nat3' (A := 8) (B := 2048) (C := 8192) (V m c main_arg0) _ _ _ _ ?_ ?_ ?_
  · blk_simp [e0]; rfl
  · blk_simp [e1]; change t.val % 8 * 256 + r = _; omega
  · blk_simp [e2]

theorem blk1 (c : Dev nD) (t : Fin cfg0.N) (r j : ℕ) (hr : r < 256) (hj : j < 32) :
    nat3 (A := 1) (B := 256) (C := 32) (iblk m c 1 t) 0 r j = (inpI m c).xs (t.val / 8) (256 * (t.val % 8) + r) j := by
  obtain ⟨e0, e1, e2⟩ := idx1 t
  rw [nat3_of _ (by omega) hr hj]
  blk_simp [iblk]
  change _ = nat3 (A := 8) (B := 2048) (C := 32) (V m c main_arg1) _ _ _
  refine at_nat3' (A := 8) (B := 2048) (C := 32) (V m c main_arg1) _ _ _ _ ?_ ?_ ?_
  · blk_simp [e0]; rfl
  · blk_simp [e1]; change t.val % 8 * 256 + r = _; omega
  · blk_simp [e2]

theorem blk2 (c : Dev nD) (t : Fin cfg0.N) (r j : ℕ) (hr : r < 256) (hj : j < 2048) :
    nat3 (A := 1) (B := 256) (C := 2048) (iblk m c 2 t) 0 r j = (inpI m c).k (t.val / 8) (256 * (t.val % 8) + r) j := by
  obtain ⟨e0, e1, e2⟩ := idx2 t
  rw [nat3_of _ (by omega) hr hj]
  blk_simp [iblk]
  change _ = nat3 (A := 8) (B := 2048) (C := 2048) (V m c main_arg2) _ _ _
  refine at_nat3' (A := 8) (B := 2048) (C := 2048) (V m c main_arg2) _ _ _ _ ?_ ?_ ?_
  · blk_simp [e0]; rfl
  · blk_simp [e1]; change t.val % 8 * 256 + r = _; omega
  · blk_simp [e2]

theorem blk3 (c : Dev nD) (t : Fin cfg0.N) (r j : ℕ) (hr : r < 256) (hj : j < 8) :
    nat3 (A := 1) (B := 256) (C := 8) (iblk m c 3 t) 0 r j = (inpI m c).ks (t.val / 8) (256 * (t.val % 8) + r) j := by
  obtain ⟨e0, e1, e2⟩ := idx3 t
  rw [nat3_of _ (by omega) hr hj]
  blk_simp [iblk]
  change _ = nat3 (A := 8) (B := 2048) (C := 8) (V m c main_arg3) _ _ _
  refine at_nat3' (A := 8) (B := 2048) (C := 8) (V m c main_arg3) _ _ _ _ ?_ ?_ ?_
  · blk_simp [e0]; rfl
  · blk_simp [e1]; change t.val % 8 * 256 + r = _; omega
  · blk_simp [e2]

theorem blk4 (c : Dev nD) (t : Fin cfg0.N) (r j : ℕ) (hr : r < 256) (hj : j < 2048) :
    nat3 (A := 1) (B := 256) (C := 2048) (iblk m c 4 t) 0 r j = (inpI m c).v (t.val / 8) (256 * (t.val % 8) + r) j := by
  obtain ⟨e0, e1, e2⟩ := idx4 t
  rw [nat3_of _ (by omega) hr hj]
  blk_simp [iblk]
  change _ = nat3 (A := 8) (B := 2048) (C := 2048) (V m c main_arg4) _ _ _
  refine at_nat3' (A := 8) (B := 2048) (C := 2048) (V m c main_arg4) _ _ _ _ ?_ ?_ ?_
  · blk_simp [e0]; rfl
  · blk_simp [e1]; change t.val % 8 * 256 + r = _; omega
  · blk_simp [e2]

theorem blk5 (c : Dev nD) (t : Fin cfg0.N) (r j : ℕ) (hr : r < 256) (hj : j < 8) :
    nat3 (A := 1) (B := 256) (C := 8) (iblk m c 5 t) 0 r j = (inpI m c).vs (t.val / 8) (256 * (t.val % 8) + r) j := by
  obtain ⟨e0, e1, e2⟩ := idx5 t
  rw [nat3_of _ (by omega) hr hj]
  blk_simp [iblk]
  change _ = nat3 (A := 8) (B := 2048) (C := 8) (V m c main_arg5) _ _ _
  refine at_nat3' (A := 8) (B := 2048) (C := 8) (V m c main_arg5) _ _ _ _ ?_ ?_ ?_
  · blk_simp [e0]; rfl
  · blk_simp [e1]; change t.val % 8 * 256 + r = _; omega
  · blk_simp [e2]

/-- The scale constant's value. -/
theorem kap_eq : (kap : Ideal .f32) = kapI := rfl

/-- The proof data's invariant: before point `8 b + q`, the scratch arrays hold the first `256 q` positions of batch `b`. -/
def track (c : Dev nD) (n : ℕ) : sProp 𝕄 :=
  iprop(((∃ f0, ∃ f1, ∃ f2, ⌜Held (inpI m c) (n / 8) (256 * (n % 8)) f0 f1 f2⌝ ∗ owns (c : Thread nD τ) (Memref.whole cc0_scratch0) fullShare f0 ∗
      owns (c : Thread nD τ) (Memref.whole cc0_scratch1) fullShare f1 ∗ owns (c : Thread nD τ) (Memref.whole cc0_scratch2) fullShare f2) ∗
      (∃ f, owns (c : Thread nD τ) (Memref.whole cc0_scratch3) fullShare f) ∗
      (∃ f, owns (c : Thread nD τ) (Memref.whole cc0_scratch4) fullShare f) ∗ (∃ f, owns (c : Thread nD τ) (Memref.whole cc0_scratch5) fullShare f) ∗
      (∃ f, owns (c : Thread nD τ) (Memref.whole cc0_scratch6) fullShare f)) ∗ ∃ r, prngReg c r)

/-- With nothing to hold, the scratch arrays hold it. -/
theorem held_zero (I : In) (b : ℕ) (f0 f1 f2) : Held I b 0 f0 f1 f2 :=
  ⟨fun _ _ _ _ h => absurd h (Nat.not_lt_zero _), fun _ _ _ _ h => absurd h (Nat.not_lt_zero _), fun _ _ _ _ _ h => absurd h (Nat.not_lt_zero _)⟩

/-- After a point the next point's requirement holds. -/
theorem held_next (I : In) (t : ℕ) (f0 f1 f2) (h : Held I (t / 8) (256 * (t % 8) + 256) f0 f1 f2) :
    Held I ((t + 1) / 8) (256 * ((t + 1) % 8)) f0 f1 f2 := by
  by_cases e : t % 8 = 7
  · rw [show (t + 1) % 8 = 0 by omega]; exact held_zero I _ f0 f1 f2
  · rw [show (t + 1) / 8 = t / 8 by omega, show 256 * ((t + 1) % 8) = 256 * (t % 8) + 256 by omega]; exact h

/-- The block of codes written at a point. -/
def codes (c : Dev nD) (t : ℕ) : Vec Ideal S1x256x8192 .fp8e4m3 :=
  fun y => codeAt (inpI m c) (t / 8) (256 * (t % 8) + (y 1).val) (y 2).val

/-- The block of scales written at a point. -/
def scales (c : Dev nD) (t : ℕ) : Vec Ideal S1x1x256 .f32 :=
  fun y => scaleAt (inpI m c) (t / 8) (256 * (t % 8) + (y 2).val)

/-- The proof data: inputs keep their blocks, the results' blocks are the reference's. -/
def datsV (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => codes m c t.val
    | 7 => scales m c t.val
  Φ n := track m c n.val
  q _ := fullShare
  owed _ := 0

/-- The body's state at a point. -/
abbrev stAt (c : Dev nD) (t : Fin cfg0.N) (X6 : Vec Ideal S1x256x8192 .fp8e4m3) (X7 : Vec Ideal S1x1x256 .f32)
    (f0 : Vec Ideal S8x2048x256 .fp8e4m3) (f1 : Vec Ideal S8x2048x128 .f32) (f2 : Vec Ideal S8x256x2048 .bf16)
    (f3 : Vec Ideal S32x1x256 .f32) (f5 : Vec Ideal S32x256x256 .f32) (f6 : Vec Ideal S8x256 .f32) : St Ideal :=
  ⟨iblk m c 0 t, iblk m c 1 t, iblk m c 2 t, iblk m c 3 t, iblk m c 4 t, iblk m c 5 t, X6, X7, f0, f1, f2, f3, f5, f6⟩

/-- What the body leaves at a point. -/
theorem point_value (c : Dev nD) (t : Fin cfg0.N) (X6 : Vec Ideal S1x256x8192 .fp8e4m3) (X7 : Vec Ideal S1x1x256 .f32)
    (f0 : Vec Ideal S8x2048x256 .fp8e4m3) (f1 : Vec Ideal S8x2048x128 .f32) (f2 : Vec Ideal S8x256x2048 .bf16)
    (f3 : Vec Ideal S32x1x256 .f32) (f5 : Vec Ideal S32x256x256 .f32) (f6 : Vec Ideal S8x256 .f32)
    (H : Held (inpI m c) (t.val / 8) (256 * (t.val % 8)) f0 f1 f2) :
    (bodySt kap (qAt t) (stAt m c t X6 X7 f0 f1 f2 f3 f5 f6)).oc = codes m c t.val
    ∧ (bodySt kap (qAt t) (stAt m c t X6 X7 f0 f1 f2 f3 f5 f6)).os = scales m c t.val
    ∧ Held (inpI m c) ((t.val + 1) / 8) (256 * ((t.val + 1) % 8)) (bodySt kap (qAt t) (stAt m c t X6 X7 f0 f1 f2 f3 f5 f6)).kAll
        (bodySt kap (qAt t) (stAt m c t X6 X7 f0 f1 f2 f3 f5 f6)).ksAll (bodySt kap (qAt t) (stAt m c t X6 X7 f0 f1 f2 f3 f5 f6)).vtAll := by
  have hq := qAt_val t
  have B : Blk (inpI m c) (t.val / 8) (256 * (qAt t).val) (stAt m c t X6 X7 f0 f1 f2 f3 f5 f6) := by
    rw [hq]
    exact ⟨blk0 m c t, blk1 m c t, blk2 m c t, blk3 m c t, blk4 m c t, blk5 m c t⟩
  rw [← hq] at H
  obtain ⟨h1, h2, h3⟩ := bodySt_value (qAt t) B H
  rw [kap_eq]
  rw [hq] at h1 h2 h3
  generalize bodySt kapI (qAt t) (stAt m c t X6 X7 f0 f1 f2 f3 f5 f6) = R at h1 h2 h3 ⊢
  refine ⟨funext fun y => ?_, funext fun y => ?_, held_next _ _ _ _ _ h3⟩
  · refine (at_nat3' (A := 1) (B := 256) (C := 8192) R.oc y 0 (y 1).val (y 2).val ?_ rfl rfl).trans (h1 _ _ (y 1).isLt (y 2).isLt)
    have := (y 0).isLt
    change (y 0).val < 1 at this
    omega
  · refine (at_nat3' (A := 1) (B := 1) (C := 256) R.os y 0 0 (y 2).val ?_ ?_ rfl).trans (h2 _ (y 2).isLt)
    · have := (y 0).isLt
      change (y 0).val < 1 at this
      omega
    · have := (y 1).isLt
      change (y 1).val < 1 at this
      omega

theorem body_obligationV (c : Dev nD) :
    BodyObligationLoose (datsV m 0 c) (defs₀ (F := Ideal)) Variants.none () Set.univ := fun t => by
  rw [bigSep_W0, bigSep_W0]
  change _ ⊢ wp frame _ _ (bodyAt0 (F := Ideal) t) _
  rw [show (datsV m 0 c).owesAt () t.succ = (datsV m 0 c).owesAt () t.castSucc from rfl]
  change iprop((track m c t.val : sProp 𝕄) ∗ _) ⊢ wp frame _ _ _ (fun _ => iprop((track m c (t.val + 1) : sProp 𝕄) ∗ _))
  unfold track
  iintro ⟨⟨⟨⟨%f0, %f1, %f2, %HH, S0, S1, S2⟩, ⟨%f3, S3⟩, S4, ⟨%f5, S5⟩, ⟨%f6, S6⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (datsV m 0 c) rfl (fun _ => rfl) t d0, before0_1_of m (datsV m 0 c) rfl (fun _ => rfl) t d1,
    before0_2_of m (datsV m 0 c) rfl (fun _ => rfl) t d2, before0_3_of m (datsV m 0 c) rfl (fun _ => rfl) t d3,
    before0_4_of m (datsV m 0 c) rfl (fun _ => rfl) t d4, before0_5_of m (datsV m 0 c) rfl (fun _ => rfl) t d5]
  obtain ⟨e6, e7, HH'⟩ := point_value m c t ((datsV m 0 c).before 6 t d6) ((datsV m 0 c).before 7 t d7) f0 f1 f2 f3 f5 f6 HH
  iapply (body_run c t (stAt m c t ((datsV m 0 c).before 6 t d6) ((datsV m 0 c).before 7 t d7) f0 f1 f2 f3 f5 f6) _)
  unfold Own
  isplitl [S0 S1 S2 S3 S5 S6 H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S5]; · iexact S5
    isplitl [S6]; · iexact S6
    iempintro
  rw [bodySt_x, bodySt_xs, bodySt_k, bodySt_ks, bodySt_v, bodySt_vs, e6, e7]
  iintro ⟨H0, H1, H2, H3, H4, H5, H6, H7, S0, S1, S2, S3, S5, S6, -⟩
  isplitl [S0 S1 S2 S3 S4 S5 S6 Hr]
  · isplitr [Hr]
    · isplitl [S0 S1 S2]
      · iexists _, _, _
        isplitr [S0 S1 S2]
        · ipureintro; exact HH'
        isplitl [S0]; · iexact S0
        isplitl [S1]; · iexact S1
        iexact S2
      isplitl [S3]; · iexists _; iexact S3
      isplitl [S4]; · iexact S4
      isplitl [S5]; · iexists _; iexact S5
      iexists _; iexact S6
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem track_in (c : Dev nD) : (Pipeline.ΦA spec0 c : sProp 𝕄) ⊢ track m c 0 := by
  rw [scratch_eq]
  unfold track
  iintro ⟨⟨⟨%f0, S0⟩, ⟨%f1, S1⟩, ⟨%f2, S2⟩, S3⟩, Hr⟩
  isplitr [Hr]
  · isplitl [S0 S1 S2]
    · iexists f0, f1, f2
      isplitr [S0 S1 S2]
      · ipureintro; exact held_zero (inpI m c) _ f0 f1 f2
      isplitl [S0]; · iexact S0
      isplitl [S1]; · iexact S1
      iexact S2
    iexact S3
  iexact Hr

theorem track_out (c : Dev nD) (n : ℕ) : track m c n ⊢ (Pipeline.ΦA spec0 c : sProp 𝕄) := by
  rw [scratch_eq]
  unfold track
  iintro ⟨⟨⟨%f0, %f1, %f2, %HH, S0, S1, S2⟩, S3⟩, Hr⟩
  isplitr [Hr]
  · isplitl [S0]; · iexists f0; iexact S0
    isplitl [S1]; · iexists f1; iexact S1
    isplitl [S2]; · iexists f2; iexact S2
    iexact S3
  iexact Hr

/-- The array of codes. -/
def codesAll (c : Dev nD) : Vec Ideal S8x2048x8192 .fp8e4m3 :=
  fun i => codeAt (inpI m c) (i 0).val (i 1).val (i 2).val

/-- The array of scales. -/
def scalesAll (c : Dev nD) : Vec Ideal S8x1x2048 .f32 :=
  fun i => scaleAt (inpI m c) (i 0).val (i 2).val

theorem final6 (c : Dev nD) : (datsV m 0 c).arrAt 6 cfg0.N = codesAll m c := by
  refine (datsV m 0 c).arrAt_eq_of_covers 6 _ (by decide +kernel) fun t _ y => ?_
  obtain ⟨e0, e1, e2⟩ := idx6 t
  blk_simp
  change codes m c t.val y = codesAll m c _
  unfold codes codesAll
  congr 1
  · blk_simp [e0]
  · blk_simp [e1]; omega
  · blk_simp [e2]

theorem final7 (c : Dev nD) : (datsV m 0 c).arrAt 7 cfg0.N = scalesAll m c := by
  refine (datsV m 0 c).arrAt_eq_of_covers 7 _ (by decide +kernel) fun t _ y => ?_
  obtain ⟨e0, e1, e2⟩ := idx7 t
  blk_simp
  change scales m c t.val y = scalesAll m c _
  unfold scales scalesAll
  congr 1
  · blk_simp [e0]
  · blk_simp [e2]; omega

set_option backward.isDefEq.respectTransparency.types false in
/-- The kernel's run: its results, the arguments as launched. -/
theorem value_run : θ_run (defs (F := Ideal)) (onTc (τ := τ) (main (F := Ideal))) ⟨m, fun _ => 0, ρ⟩ (fun r => ∀ c : Dev nD,
      r.2.mem ((c.tc : Thread nD τ).loc main_v0_0) = codesAll m c
      ∧ r.2.mem ((c.tc : Thread nD τ).loc main_v0_1) = scalesAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_frame_track cfgs (datsV m) (0 : Fin 1) launch0 defs₀ Variants.none m ρ main
    (hbody := body_obligationV m)
    (hshare := fun c => (datsV m 0 c).share_full fun _ => rfl) (howed := fun _ _ => rfl)
    (V := V m) (hmain := hmain m Variants.none) (hA := fun _ _ => rfl)
    (hin := fun c => track_in m c) (hout := fun c => track_out m c _)
    (Q' := _)
    (hQ' := fun r h c => ⟨((h.1 c).1 6).trans (final6 m c), ((h.1 c).1 7).trans (final7 m c),
      ((h.1 c).1 0).trans ((datsV m 0 c).arrAt_in 0 rfl _), ((h.1 c).1 1).trans ((datsV m 0 c).arrAt_in 1 rfl _),
      ((h.1 c).1 2).trans ((datsV m 0 c).arrAt_in 2 rfl _), ((h.1 c).1 3).trans ((datsV m 0 c).arrAt_in 3 rfl _),
      ((h.1 c).1 4).trans ((datsV m 0 c).arrAt_in 4 rfl _), ((h.1 c).1 5).trans ((datsV m 0 c).arrAt_in 5 rfl _)⟩)

end Cert.KernelIdeal.B

end
-- ==== Proof.lean ====
/-
  The certificate's theorem, assembled: the kernel's two frames (Proof/KR/Frame.lean, Proof/KI/Frame.lean), the
  reference's frame, the named constant of the idealization, and the equality of the results: the kernel's run
  (Proof/KI/Value.lean) and the reference's (Proof/RI/Run.lean) leave the same codes and scales.
-/
module

public import proofs.«01_k».proof.Defs
public import proofs.«01_k».proof.Proof.KR.Frame
public import proofs.«01_k».proof.Proof.KI.Frame
public import proofs.«01_k».proof.Proof.Gen.ReferenceIdeal.Frame
public import proofs.«01_k».proof.Proof.RI.Run
public import proofs.«01_k».proof.Proof.KI.Value

@[expose] public section

noncomputable section

open Idealize.ShloMosaic

/-- The two results agree: both runs leave the same codes and the same scales. -/
theorem Cert.Proof.results : Cert.algebraic_KernelIdeal_ReferenceIdeal (hKernelIdeal := Cert.KernelIdeal.Gen.facts)
    (hReferenceIdeal := Cert.ReferenceIdeal.Gen.facts) := fun m g m' g' _ hm => by
  refine ⟨fun c => Cert.KernelIdeal.B.codesAll m c, fun c => Cert.KernelIdeal.B.scalesAll m c, Cert.KernelIdeal.B.value_run m g, ?_⟩
  refine (θ_run _ _ _).mono (fun r h c => ?_) (Cert.ReferenceIdeal.B.value_run m' g')
  obtain ⟨h6, h7, h⟩ := h c
  obtain ⟨e0, e1, e2, e3, e4, e5⟩ := hm c
  refine ⟨h6.trans ?_, h7.trans ?_, h⟩
  · rw [e0, e1, e2, e3, e4, e5]; rfl
  · rw [e0, e1, e2, e3, e4, e5]; rfl

/-- Everything the certificate claims. -/
theorem Cert.Proof.claim : Cert.Claim :=
  ⟨Cert.Kernel.Gen.facts, Cert.KernelIdeal.Gen.facts, Cert.ReferenceIdeal.Gen.facts,
    fun m g _ => Cert.Kernel.B.frame_run m g,
    fun m g _ => Cert.KernelIdeal.B.frame_run m g,
    fun m g _ => Cert.ReferenceIdeal.Gen.frame m g,
    IdealRules.named_const.statement Cert.KernelIdeal.κ "log2e_sm" .f32 0x3DB8AA3B#32 (((Real.log 2)⁻¹ * 16⁻¹ : ℝ) : EReal) rfl,
    Cert.Proof.results⟩

end
